-- ==== Defs.lean ====
def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v153) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v7)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v7) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v37) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7))

def Claim : Prop :=
  ∃ (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts),
    quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Dense (hDense := hDense)
    ∧ quiescent_DenseIdeal (hDenseIdeal := hDenseIdeal)
    ∧ quiescent_DenseReferenceIdeal (hDenseReferenceIdeal := hDenseReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Dense_DenseIdeal
    ∧ algebraic_DenseIdeal_DenseReferenceIdeal (hDenseIdeal := hDenseIdeal) (hDenseReferenceIdeal := hDenseReferenceIdeal)
-- ==== Experts.lean ====
abbrev S32768x1024 : Shape := ⟨2, ![32768, 1024]⟩
abbrev S32768x128 : Shape := ⟨2, ![32768, 128]⟩
abbrev S16x6x1024 : Shape := ⟨3, ![16, 6, 1024]⟩
abbrev S1024 : Shape := ⟨1, ![1024]⟩
abbrev S8x1024x2816 : Shape := ⟨3, ![8, 1024, 2816]⟩
abbrev S8x2816x1024 : Shape := ⟨3, ![8, 2816, 1024]⟩
abbrev S16x6x1x1024 : Shape := ⟨4, ![16, 6, 1, 1024]⟩
abbrev S1x1024 : Shape := ⟨2, ![1, 1024]⟩
abbrev S512x1024 : Shape := ⟨2, ![512, 1024]⟩
abbrev S512x128 : Shape := ⟨2, ![512, 128]⟩
abbrev S1x1x1x1024 : Shape := ⟨4, ![1, 1, 1, 1024]⟩
abbrev S1x1024x2816 : Shape := ⟨3, ![1, 1024, 2816]⟩
abbrev S1x2816x1024 : Shape := ⟨3, ![1, 2816, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 17
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S8x1024x2816, .f32⟩
  | .hbm, ⟨7, _⟩ => ⟨S8x1024x2816, .f32⟩
  | .hbm, ⟨8, _⟩ => ⟨S8x2816x1024, .f32⟩
  | .hbm, ⟨9, _⟩ => ⟨S32768x1024, .bf16⟩
  | .hbm, ⟨10, _⟩ => ⟨S16x6x1x1024, .f32⟩
  | .hbm, ⟨11, _⟩ => ⟨S1x1024, .f32⟩
  | .hbm, ⟨12, _⟩ => ⟨S1x1024, .f32⟩
  | .hbm, ⟨13, _⟩ => ⟨S8x1024x2816, .bf16⟩
  | .hbm, ⟨14, _⟩ => ⟨S8x1024x2816, .bf16⟩
  | .hbm, ⟨15, _⟩ => ⟨S8x2816x1024, .bf16⟩
  | .hbm, ⟨16, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x1024x2816, .bf16⟩
  | .local _ .vmem, ⟨13, _⟩ => ⟨S1x1024x2816, .bf16⟩
  | .local _ .vmem, ⟨14, _⟩ => ⟨S1x2816x1024, .bf16⟩
  | .local _ .vmem, ⟨15, _⟩ => ⟨S1x2816x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 8], ![false, false]⟩

def k0_cond3 (i : grid0.Coords) : BitVec 1 :=
  let arg1 : BitVec 32 := BitVec.ofNat 32 (i 1).val
  let c7_i32 : BitVec 32 := 7#32
  let v256 : BitVec 1 := Scalar.cmpi .eq arg1 c7_i32
  let v257 : BitVec 32 := Scalar.extui v256
  let c0_i32_193 : BitVec 32 := 0#32
  let v258 : BitVec 1 := Scalar.cmpi .ne v257 c0_i32_193
  v258

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2816x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ExpertsReferenceIdeal.lean ====
abbrev S32768x1024 : Shape := ⟨2, ![32768, 1024]⟩
abbrev S32768x128 : Shape := ⟨2, ![32768, 128]⟩
abbrev S16x6x1024 : Shape := ⟨3, ![16, 6, 1024]⟩
abbrev S1024 : Shape := ⟨1, ![1024]⟩
abbrev S8x1024x2816 : Shape := ⟨3, ![8, 1024, 2816]⟩
abbrev S8x2816x1024 : Shape := ⟨3, ![8, 2816, 1024]⟩
abbrev S_ : Shape := ⟨0, ![]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩
abbrev S8x4096x1024 : Shape := ⟨3, ![8, 4096, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 234
  | .vmem => 0
  | .smem => 0
  | _ => 0

abbrev hbmTy0_0 (i : Nat) : BufTy := match i % 128 with
  | 0 => ⟨S32768x1024, .f32⟩
  | 1 => ⟨S32768x128, .f32⟩
  | 2 => ⟨S32768x1024, .f32⟩
  | 3 => ⟨S16x6x1024, .f32⟩
  | 4 => ⟨S1024, .f32⟩
  | 5 => ⟨S1024, .f32⟩
  | 6 => ⟨S8x1024x2816, .f32⟩
  | 7 => ⟨S8x1024x2816, .f32⟩
  | 8 => ⟨S8x2816x1024, .f32⟩
  | 9 => ⟨S_, .f32⟩
  | 10 => ⟨S32768x1024, .f32⟩
  | 11 => ⟨S32768x1, .f32⟩
  | 12 => ⟨S1x1024x2816, .f32⟩
  | 13 => ⟨S1024x2816, .f32⟩
  | 14 => ⟨S1x1024x2816, .f32⟩
  | 15 => ⟨S1024x2816, .f32⟩
  | 16 => ⟨S1x2816x1024, .f32⟩
  | 17 => ⟨S2816x1024, .f32⟩
  | 18 => ⟨S32768x2816, .f32⟩
  | 19 => ⟨S32768x2816, .f32⟩
  | 20 => ⟨S32768x2816, .f32⟩
  | 21 => ⟨S_, .f32⟩
  | 22 => ⟨S32768x2816, .f32⟩
  | 23 => ⟨S32768x2816, .f32⟩
  | 24 => ⟨S_, .f32⟩
  | 25 => ⟨S32768x2816, .f32⟩
  | 26 => ⟨S32768x2816, .f32⟩
  | 27 => ⟨S32768x2816, .f32⟩
  | 28 => ⟨S32768x2816, .f32⟩
  | 29 => ⟨S32768x2816, .f32⟩
  | 30 => ⟨S32768x1024, .f32⟩
  | 31 => ⟨S32768x1024, .f32⟩
  | 32 => ⟨S32768x1024, .f32⟩
  | 33 => ⟨S32768x1024, .f32⟩
  | 34 => ⟨S32768x1, .f32⟩
  | 35 => ⟨S1x1024x2816, .f32⟩
  | 36 => ⟨S1024x2816, .f32⟩
  | 37 => ⟨S1x1024x2816, .f32⟩
  | 38 => ⟨S1024x2816, .f32⟩
  | 39 => ⟨S1x2816x1024, .f32⟩
  | 40 => ⟨S2816x1024, .f32⟩
  | 41 => ⟨S32768x2816, .f32⟩
  | 42 => ⟨S32768x2816, .f32⟩
  | 43 => ⟨S32768x2816, .f32⟩
  | 44 => ⟨S_, .f32⟩
  | 45 => ⟨S32768x2816, .f32⟩
  | 46 => ⟨S32768x2816, .f32⟩
  | 47 => ⟨S_, .f32⟩
  | 48 => ⟨S32768x2816, .f32⟩
  | 49 => ⟨S32768x2816, .f32⟩
  | 50 => ⟨S32768x2816, .f32⟩
  | 51 => ⟨S32768x2816, .f32⟩
  | 52 => ⟨S32768x2816, .f32⟩
  | 53 => ⟨S32768x1024, .f32⟩
  | 54 => ⟨S32768x1024, .f32⟩
  | 55 => ⟨S32768x1024, .f32⟩
  | 56 => ⟨S32768x1024, .f32⟩
  | 57 => ⟨S32768x1, .f32⟩
  | 58 => ⟨S1x1024x2816, .f32⟩
  | 59 => ⟨S1024x2816, .f32⟩
  | 60 => ⟨S1x1024x2816, .f32⟩
  | 61 => ⟨S1024x2816, .f32⟩
  | 62 => ⟨S1x2816x1024, .f32⟩
  | 63 => ⟨S2816x1024, .f32⟩
  | 64 => ⟨S32768x2816, .f32⟩
  | 65 => ⟨S32768x2816, .f32⟩
  | 66 => ⟨S32768x2816, .f32⟩
  | 67 => ⟨S_, .f32⟩
  | 68 => ⟨S32768x2816, .f32⟩
  | 69 => ⟨S32768x2816, .f32⟩
  | 70 => ⟨S_, .f32⟩
  | 71 => ⟨S32768x2816, .f32⟩
  | 72 => ⟨S32768x2816, .f32⟩
  | 73 => ⟨S32768x2816, .f32⟩
  | 74 => ⟨S32768x2816, .f32⟩
  | 75 => ⟨S32768x2816, .f32⟩
  | 76 => ⟨S32768x1024, .f32⟩
  | 77 => ⟨S32768x1024, .f32⟩
  | 78 => ⟨S32768x1024, .f32⟩
  | 79 => ⟨S32768x1024, .f32⟩
  | 80 => ⟨S32768x1, .f32⟩
  | 81 => ⟨S1x1024x2816, .f32⟩
  | 82 => ⟨S1024x2816, .f32⟩
  | 83 => ⟨S1x1024x2816, .f32⟩
  | 84 => ⟨S1024x2816, .f32⟩
  | 85 => ⟨S1x2816x1024, .f32⟩
  | 86 => ⟨S2816x1024, .f32⟩
  | 87 => ⟨S32768x2816, .f32⟩
  | 88 => ⟨S32768x2816, .f32⟩
  | 89 => ⟨S32768x2816, .f32⟩
  | 90 => ⟨S_, .f32⟩
  | 91 => ⟨S32768x2816, .f32⟩
  | 92 => ⟨S32768x2816, .f32⟩
  | 93 => ⟨S_, .f32⟩
  | 94 => ⟨S32768x2816, .f32⟩
  | 95 => ⟨S32768x2816, .f32⟩
  | 96 => ⟨S32768x2816, .f32⟩
  | 97 => ⟨S32768x2816, .f32⟩
  | 98 => ⟨S32768x2816, .f32⟩
  | 99 => ⟨S32768x1024, .f32⟩
  | 100 => ⟨S32768x1024, .f32⟩
  | 101 => ⟨S32768x1024, .f32⟩
  | 102 => ⟨S32768x1024, .f32⟩
  | 103 => ⟨S32768x1, .f32⟩
  | 104 => ⟨S1x1024x2816, .f32⟩
  | 105 => ⟨S1024x2816, .f32⟩
  | 106 => ⟨S1x1024x2816, .f32⟩
  | 107 => ⟨S1024x2816, .f32⟩
  | 108 => ⟨S1x2816x1024, .f32⟩
  | 109 => ⟨S2816x1024, .f32⟩
  | 110 => ⟨S32768x2816, .f32⟩
  | 111 => ⟨S32768x2816, .f32⟩
  | 112 => ⟨S32768x2816, .f32⟩
  | 113 => ⟨S_, .f32⟩
  | 114 => ⟨S32768x2816, .f32⟩
  | 115 => ⟨S32768x2816, .f32⟩
  | 116 => ⟨S_, .f32⟩
  | 117 => ⟨S32768x2816, .f32⟩
  | 118 => ⟨S32768x2816, .f32⟩
  | 119 => ⟨S32768x2816, .f32⟩
  | 120 => ⟨S32768x2816, .f32⟩
  | 121 => ⟨S32768x2816, .f32⟩
  | 122 => ⟨S32768x1024, .f32⟩
  | 123 => ⟨S32768x1024, .f32⟩
  | 124 => ⟨S32768x1024, .f32⟩
  | 125 => ⟨S32768x1024, .f32⟩
  | 126 => ⟨S32768x1, .f32⟩
  | 127 => ⟨S1x1024x2816, .f32⟩
  | _ => ⟨S32768x1024, .f32⟩

abbrev hbmTy0_1 (i : Nat) : BufTy := match i % 128 with
  | 0 => ⟨S1024x2816, .f32⟩
  | 1 => ⟨S1x1024x2816, .f32⟩
  | 2 => ⟨S1024x2816, .f32⟩
  | 3 => ⟨S1x2816x1024, .f32⟩
  | 4 => ⟨S2816x1024, .f32⟩
  | 5 => ⟨S32768x2816, .f32⟩
  | 6 => ⟨S32768x2816, .f32⟩
  | 7 => ⟨S32768x2816, .f32⟩
  | 8 => ⟨S_, .f32⟩
  | 9 => ⟨S32768x2816, .f32⟩
  | 10 => ⟨S32768x2816, .f32⟩
  | 11 => ⟨S_, .f32⟩
  | 12 => ⟨S32768x2816, .f32⟩
  | 13 => ⟨S32768x2816, .f32⟩
  | 14 => ⟨S32768x2816, .f32⟩
  | 15 => ⟨S32768x2816, .f32⟩
  | 16 => ⟨S32768x2816, .f32⟩
  | 17 => ⟨S32768x1024, .f32⟩
  | 18 => ⟨S32768x1024, .f32⟩
  | 19 => ⟨S32768x1024, .f32⟩
  | 20 => ⟨S32768x1024, .f32⟩
  | 21 => ⟨S32768x1, .f32⟩
  | 22 => ⟨S1x1024x2816, .f32⟩
  | 23 => ⟨S1024x2816, .f32⟩
  | 24 => ⟨S1x1024x2816, .f32⟩
  | 25 => ⟨S1024x2816, .f32⟩
  | 26 => ⟨S1x2816x1024, .f32⟩
  | 27 => ⟨S2816x1024, .f32⟩
  | 28 => ⟨S32768x2816, .f32⟩
  | 29 => ⟨S32768x2816, .f32⟩
  | 30 => ⟨S32768x2816, .f32⟩
  | 31 => ⟨S_, .f32⟩
  | 32 => ⟨S32768x2816, .f32⟩
  | 33 => ⟨S32768x2816, .f32⟩
  | 34 => ⟨S_, .f32⟩
  | 35 => ⟨S32768x2816, .f32⟩
  | 36 => ⟨S32768x2816, .f32⟩
  | 37 => ⟨S32768x2816, .f32⟩
  | 38 => ⟨S32768x2816, .f32⟩
  | 39 => ⟨S32768x2816, .f32⟩
  | 40 => ⟨S32768x1024, .f32⟩
  | 41 => ⟨S32768x1024, .f32⟩
  | 42 => ⟨S32768x1024, .f32⟩
  | 43 => ⟨S32768x1024, .f32⟩
  | 44 => ⟨S32768x1, .f32⟩
  | 45 => ⟨S1x1024x2816, .f32⟩
  | 46 => ⟨S1024x2816, .f32⟩
  | 47 => ⟨S1x1024x2816, .f32⟩
  | 48 => ⟨S1024x2816, .f32⟩
  | 49 => ⟨S1x2816x1024, .f32⟩
  | 50 => ⟨S2816x1024, .f32⟩
  | 51 => ⟨S32768x2816, .f32⟩
  | 52 => ⟨S32768x2816, .f32⟩
  | 53 => ⟨S32768x2816, .f32⟩
  | 54 => ⟨S_, .f32⟩
  | 55 => ⟨S32768x2816, .f32⟩
  | 56 => ⟨S32768x2816, .f32⟩
  | 57 => ⟨S_, .f32⟩
  | 58 => ⟨S32768x2816, .f32⟩
  | 59 => ⟨S32768x2816, .f32⟩
  | 60 => ⟨S32768x2816, .f32⟩
  | 61 => ⟨S32768x2816, .f32⟩
  | 62 => ⟨S32768x2816, .f32⟩
  | 63 => ⟨S32768x1024, .f32⟩
  | 64 => ⟨S32768x1024, .f32⟩
  | 65 => ⟨S32768x1024, .f32⟩
  | 66 => ⟨S32768x1024, .f32⟩
  | 67 => ⟨S8x4096x1024, .f32⟩
  | 68 => ⟨S8x1x1024, .f32⟩
  | 69 => ⟨S8x4096x1024, .f32⟩
  | 70 => ⟨S_, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S_, .f32⟩
  | 77 => ⟨S8x4096, .f32⟩
  | 78 => ⟨S8x4096x1, .f32⟩
  | 79 => ⟨S_, .f32⟩
  | 80 => ⟨S8x4096x1, .f32⟩
  | 81 => ⟨S8x4096x1, .f32⟩
  | 82 => ⟨S8x4096x1024, .f32⟩
  | 83 => ⟨S8x4096x1024, .f32⟩
  | 84 => ⟨S8x4096x1024, .f32⟩
  | 85 => ⟨S_, .f32⟩
  | 86 => ⟨S8x4096, .f32⟩
  | 87 => ⟨S8x4096x1, .f32⟩
  | 88 => ⟨S_, .f32⟩
  | 89 => ⟨S8x4096x1, .f32⟩
  | 90 => ⟨S8x4096x1, .f32⟩
  | 91 => ⟨S8x4096x1024, .f32⟩
  | 92 => ⟨S8x4096x1024, .f32⟩
  | 93 => ⟨S_, .f32⟩
  | 94 => ⟨S8x4096x1, .f32⟩
  | 95 => ⟨S8x4096x1, .f32⟩
  | 96 => ⟨S8x4096x1, .f32⟩
  | 97 => ⟨S8x4096x1024, .f32⟩
  | 98 => ⟨S8x4096x1024, .f32⟩
  | 99 => ⟨S1x1x1024, .f32⟩
  | 100 => ⟨S8x4096x1024, .f32⟩
  | 101 => ⟨S8x4096x1024, .f32⟩
  | 102 => ⟨S1x1x1024, .f32⟩
  | 103 => ⟨S8x4096x1024, .f32⟩
  | 104 => ⟨S8x4096x1024, .f32⟩
  | 105 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_call4_v0 : Ref sig .tc := ⟨.hbm, 111, rfl⟩
abbrev main_call4_v1 : Ref sig .tc := ⟨.hbm, 112, rfl⟩
abbrev main_call4_cst : Ref sig .tc := ⟨.hbm, 113, rfl⟩
abbrev main_call4_v2 : Ref sig .tc := ⟨.hbm, 114, rfl⟩
abbrev main_call4_v3 : Ref sig .tc := ⟨.hbm, 115, rfl⟩
abbrev main_call4_cst_0 : Ref sig .tc := ⟨.hbm, 116, rfl⟩
abbrev main_call4_v4 : Ref sig .tc := ⟨.hbm, 117, rfl⟩
abbrev main_call4_v5 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call5_v0 : Ref sig .tc := ⟨.hbm, 134, rfl⟩
abbrev main_call5_v1 : Ref sig .tc := ⟨.hbm, 135, rfl⟩
abbrev main_call5_cst : Ref sig .tc := ⟨.hbm, 136, rfl⟩
abbrev main_call5_v2 : Ref sig .tc := ⟨.hbm, 137, rfl⟩
abbrev main_call5_v3 : Ref sig .tc := ⟨.hbm, 138, rfl⟩
abbrev main_call5_cst_0 : Ref sig .tc := ⟨.hbm, 139, rfl⟩
abbrev main_call5_v4 : Ref sig .tc := ⟨.hbm, 140, rfl⟩
abbrev main_call5_v5 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_call6_v0 : Ref sig .tc := ⟨.hbm, 157, rfl⟩
abbrev main_call6_v1 : Ref sig .tc := ⟨.hbm, 158, rfl⟩
abbrev main_call6_cst : Ref sig .tc := ⟨.hbm, 159, rfl⟩
abbrev main_call6_v2 : Ref sig .tc := ⟨.hbm, 160, rfl⟩
abbrev main_call6_v3 : Ref sig .tc := ⟨.hbm, 161, rfl⟩
abbrev main_call6_cst_0 : Ref sig .tc := ⟨.hbm, 162, rfl⟩
abbrev main_call6_v4 : Ref sig .tc := ⟨.hbm, 163, rfl⟩
abbrev main_call6_v5 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_call7_v0 : Ref sig .tc := ⟨.hbm, 180, rfl⟩
abbrev main_call7_v1 : Ref sig .tc := ⟨.hbm, 181, rfl⟩
abbrev main_call7_cst : Ref sig .tc := ⟨.hbm, 182, rfl⟩
abbrev main_call7_v2 : Ref sig .tc := ⟨.hbm, 183, rfl⟩
abbrev main_call7_v3 : Ref sig .tc := ⟨.hbm, 184, rfl⟩
abbrev main_call7_cst_0 : Ref sig .tc := ⟨.hbm, 185, rfl⟩
abbrev main_call7_v4 : Ref sig .tc := ⟨.hbm, 186, rfl⟩
abbrev main_call7_v5 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_cst_0 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_cst_1 : Ref sig .tc := ⟨.hbm, 204, rfl⟩
abbrev main_v129 : Ref sig .tc := ⟨.hbm, 205, rfl⟩
abbrev main_v130 : Ref sig .tc := ⟨.hbm, 206, rfl⟩
abbrev main_cst_2 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_cst_3 : Ref sig .tc := ⟨.hbm, 213, rfl⟩
abbrev main_v136 : Ref sig .tc := ⟨.hbm, 214, rfl⟩
abbrev main_v137 : Ref sig .tc := ⟨.hbm, 215, rfl⟩
abbrev main_cst_4 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_cst_5 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩

abbrev nD : Nat := 1
abbrev τ : Topo := Topo.v7x

variable {F : FTy → Type} [FloatOps F]
-- ==== Dense.lean ====
abbrev S32768x1024 : Shape := ⟨2, ![32768, 1024]⟩
abbrev S16x6x1024 : Shape := ⟨3, ![16, 6, 1024]⟩
abbrev S1024 : Shape := ⟨1, ![1024]⟩
abbrev S1024x2816 : Shape := ⟨2, ![1024, 2816]⟩
abbrev S2816x1024 : Shape := ⟨2, ![2816, 1024]⟩
abbrev S16x6x1x1024 : Shape := ⟨4, ![16, 6, 1, 1024]⟩
abbrev S1x1024 : Shape := ⟨2, ![1, 1024]⟩
abbrev S512x1024 : Shape := ⟨2, ![512, 1024]⟩
abbrev S1x1x1x1024 : Shape := ⟨4, ![1, 1, 1, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S16x6x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x1024, .bf16⟩
  | .hbm, ⟨9, _⟩ => ⟨S16x6x1x1024, .f32⟩
  | .hbm, ⟨10, _⟩ => ⟨S1x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DenseReferenceIdeal.lean ====
abbrev S32768x1024 : Shape := ⟨2, ![32768, 1024]⟩
abbrev S16x6x1024 : Shape := ⟨3, ![16, 6, 1024]⟩
abbrev S1024 : Shape := ⟨1, ![1024]⟩
abbrev S1024x2816 : Shape := ⟨2, ![1024, 2816]⟩
abbrev S2816x1024 : Shape := ⟨2, ![2816, 1024]⟩
abbrev S32768x2816 : Shape := ⟨2, ![32768, 2816]⟩
abbrev S_ : Shape := ⟨0, ![]⟩
abbrev S8x4096x1024 : Shape := ⟨3, ![8, 4096, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S16x6x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x1024, .f32⟩
  | .hbm, ⟨21, _⟩ => ⟨S8x4096x1024, .f32⟩
  | .hbm, ⟨22, _⟩ => ⟨S8x1x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Layer.lean ====
/- The parts of a layer's second half, for one row: the gated feed-forward's hidden features, the residual, the layer norm. -/
module

public import Idealize.ShloMosaic.Lib.Pointwise

@[expose] public section

noncomputable section

namespace Cert.Proof.Layer

open Idealize.ShloMosaic

/-- The mean of 1024 numbers. -/
def mean (v : Fin 1024 → EReal) : EReal := Ideal.div (∑ k, v k) (Ideal.ofBits .f32 0x44800000#32)

/-- Layer norm: deviations from the mean, over the root of their mean square and a small constant, scaled and shifted. -/
def normal (v g b : Fin 1024 → EReal) (d : Fin 1024) : EReal :=
  (v d - mean v) * Ideal.rsqrt (mean (fun k => (v k - mean v) * (v k - mean v)) + Ideal.ofBits .f32 0x3727C5AC#32) * g d + b d

/-- The weighted residual: a constant times the stream, plus a gate times the branch. -/
def residual (x gate y : Fin 1024 → EReal) (d : Fin 1024) : EReal := Ideal.ofBits .f32 0x3FB504F3#32 * x d + gate d * y d

/-- A gate's value: `a · logistic a · u`. -/
def swish (a u : EReal) : EReal := a * Ideal.logistic a * u

/-- The hidden features of the feed-forward. -/
def hidden (h : Fin 1024 → EReal) (wg wu : Fin 1024 → Fin 2816 → EReal) (f : Fin 2816) : EReal :=
  swish (∑ k, h k * wg k f) (∑ k, h k * wu k f)

end Cert.Proof.Layer

end
-- ==== Proof.ExpertsPlain.lean ====
/- The plain experts, read at an index. -/
module

public import proofs.«01_k».proof.Proof.Gen.ExpertsReferenceIdeal.Run
public import proofs.«01_k».proof.Proof.Layer
public import Idealize.ShloMosaic.Lib.Pointwise

@[expose] public section

set_option maxRecDepth 16384

noncomputable section

namespace Cert.Proof.ExpertsPlain

open Idealize.ShloMosaic Idealize.ShloMosaic.TcCoe Idealize.SL.Sem
open Cert.ExpertsReferenceIdeal Cert.ExpertsReferenceIdeal.Gen

section

variable (h x : FVec Ideal S32768x1024 .f32) (a : FVec Ideal S32768x128 .f32) (m : FVec Ideal S16x6x1024 .f32)
  (g b : FVec Ideal S1024 .f32) (wg wu : FVec Ideal S8x1024x2816 .f32) (wd : FVec Ideal S8x2816x1024 .f32)

/-- The means of the rows. -/
def means (x : FVec Ideal S8x4096x1024 .f32) : FVec Ideal S8x4096x1 .f32 :=
  Host.divf (broadcastInDim S8x4096x1 ![0, 1] bcast_S8x4096_S8x4096x1_0_1
      (Host.reduceAdd x (constant S_ .f32 0x00000000#32) reducesTo_S8x4096x1024_S8x4096_d2 h_S_))
    (broadcastInDim S8x4096x1 ![] bcast_S_S8x4096x1 (constant S_ .f32 0x44800000#32))

/-- The deviations from the means. -/
def deviations (x : FVec Ideal S8x4096x1024 .f32) : FVec Ideal S8x4096x1024 .f32 :=
  subf x (broadcastInDim S8x4096x1024 ![0, 1, 2] bcast_S8x4096x1_S8x4096x1024_0_1_2 (means x))

/-- Layer norm. -/
def normed (x : FVec Ideal S8x4096x1024 .f32) (g b : FVec Ideal S1024 .f32) : FVec Ideal S8x4096x1024 .f32 :=
  addf (mulf (mulf (deviations x) (broadcastInDim S8x4096x1024 ![0, 1, 2] bcast_S8x4096x1_S8x4096x1024_0_1_2
      (Host.rsqrt (addf (means (mulf (deviations x) (deviations x)))
        (broadcastInDim S8x4096x1 ![] bcast_S_S8x4096x1 (constant S_ .f32 0x3727C5AC#32))))))
      (broadcastInDim S8x4096x1024 ![0, 1, 2] bcast_S1x1x1024_S8x4096x1024_0_1_2
        (broadcastInDim S1x1x1024 ![2] bcast_S1024_S1x1x1024_2 g)))
    (broadcastInDim S8x4096x1024 ![0, 1, 2] bcast_S1x1x1024_S8x4096x1024_0_1_2
      (broadcastInDim S1x1x1024 ![2] bcast_S1024_S1x1x1024_2 b))

/-- A projection of the rows by one expert's weights. -/
def projected (e : Fin 8) (w : FVec Ideal S8x1024x2816 .f32) (s : S8x1024x2816.Slices ![(e : ℕ), 0, 0] S1x1024x2816) :
    FVec Ideal S32768x2816 .f32 :=
  Host.dotGeneral dot_S32768x1024_S1024x2816_S32768x2816_1_0_0_1_n_n none h
    (shapeCast _ (extractStridedSlice S1x1024x2816 ![(e : ℕ), 0, 0] w s) shapeCasts_S1x1024x2816_S1024x2816)

/-- One expert's hidden features. -/
def features (p q : FVec Ideal S32768x2816 .f32) : FVec Ideal S32768x2816 .f32 :=
  mulf (mulf p (Host.divf (broadcastInDim S32768x2816 ![] bcast_S_S32768x2816 (constant S_ .f32 0x3F800000#32))
    (addf (broadcastInDim S32768x2816 ![] bcast_S_S32768x2816 (constant S_ .f32 0x3F800000#32)) (Host.exp (Host.negf p))))) q

/-- One expert's part of the sum. -/
def part (e : Fin 8) (s : S8x1024x2816.Slices ![(e : ℕ), 0, 0] S1x1024x2816)
    (s' : S8x2816x1024.Slices ![(e : ℕ), 0, 0] S1x2816x1024) (s'' : S32768x128.Slices ![0, (e : ℕ)] S32768x1) :
    FVec Ideal S32768x1024 .f32 :=
  mulf (broadcastInDim S32768x1024 ![0, 1] bcast_S32768x1_S32768x1024_0_1 (extractStridedSlice S32768x1 ![0, (e : ℕ)] a s''))
    (Host.dotGeneral dot_S32768x2816_S2816x1024_S32768x1024_1_0_0_1_n_n none (features (projected h e wg s) (projected h e wu s))
      (shapeCast _ (extractStridedSlice S1x2816x1024 ![(e : ℕ), 0, 0] wd s') shapeCasts_S1x2816x1024_S2816x1024))

/-- The experts' sum. -/
def total : FVec Ideal S32768x1024 .f32 :=
  addf (addf (addf (addf (addf (addf (addf (addf (broadcastInDim S32768x1024 ![] bcast_S_S32768x1024 (constant S_ .f32 0x00000000#32))
    (part h a wg wu wd 0 slices_S8x1024x2816_S1x1024x2816_0_0_0 slices_S8x2816x1024_S1x2816x1024_0_0_0 slices_S32768x128_S32768x1_0_0))
    (part h a wg wu wd 1 slices_S8x1024x2816_S1x1024x2816_1_0_0 slices_S8x2816x1024_S1x2816x1024_1_0_0 slices_S32768x128_S32768x1_0_1))
    (part h a wg wu wd 2 slices_S8x1024x2816_S1x1024x2816_2_0_0 slices_S8x2816x1024_S1x2816x1024_2_0_0 slices_S32768x128_S32768x1_0_2))
    (part h a wg wu wd 3 slices_S8x1024x2816_S1x1024x2816_3_0_0 slices_S8x2816x1024_S1x2816x1024_3_0_0 slices_S32768x128_S32768x1_0_3))
    (part h a wg wu wd 4 slices_S8x1024x2816_S1x1024x2816_4_0_0 slices_S8x2816x1024_S1x2816x1024_4_0_0 slices_S32768x128_S32768x1_0_4))
    (part h a wg wu wd 5 slices_S8x1024x2816_S1x1024x2816_5_0_0 slices_S8x2816x1024_S1x2816x1024_5_0_0 slices_S32768x128_S32768x1_0_5))
    (part h a wg wu wd 6 slices_S8x1024x2816_S1x1024x2816_6_0_0 slices_S8x2816x1024_S1x2816x1024_6_0_0 slices_S32768x128_S32768x1_0_6))
    (part h a wg wu wd 7 slices_S8x1024x2816_S1x1024x2816_7_0_0 slices_S8x2816x1024_S1x2816x1024_7_0_0 slices_S32768x128_S32768x1_0_7)

/-- The second residual. -/
def closing (y : FVec Ideal S32768x1024 .f32) : FVec Ideal S8x4096x1024 .f32 :=
  addf (mulf (broadcastInDim S8x4096x1024 ![] bcast_S_S8x4096x1024 (constant S_ .f32 0x3FB504F3#32))
      (shapeCast _ x shapeCasts_S32768x1024_S8x4096x1024))
    (mulf (broadcastInDim S8x4096x1024 ![0, 1, 2] bcast_S8x1x1024_S8x4096x1024_0_1_2
        (extractStridedSlice S8x1x1024 ![0, 5, 0] m slices_S16x6x1024_S8x1x1024_0_5_0))
      (shapeCast _ y shapeCasts_S32768x1024_S8x4096x1024))

/-- The result. -/
def whole : FVec Ideal S32768x1024 .f32 :=
  shapeCast _ (normed (closing x m (total h a wg wu wd)) g b) shapeCasts_S8x4096x1024_S32768x1024

/-- Layer norm at an index. -/
theorem normed_at (x : FVec Ideal S8x4096x1024 .f32) (g b : FVec Ideal S1024 .f32) (n : Fin 8) (l : Fin 4096) (d : Fin 1024) :
    normed x g b (ix3 n l d)
      = Layer.normal (fun k => x (ix3 n l k)) (fun k => g (ix1 k)) (fun k => b (ix1 k)) d := by
  pointwise [normed, deviations, means, Layer.normal, Layer.mean]

/-- A projection at an index. -/
theorem projected_at (e : Fin 8) (w : FVec Ideal S8x1024x2816 .f32) (s : S8x1024x2816.Slices ![(e : ℕ), 0, 0] S1x1024x2816)
    (r : Fin 32768) (f : Fin 2816) :
    projected h e w s (ix2 r f) = ∑ k, h (ix2 r k) * w (ix3 e k f) := by
  pointwise [projected]

/-- One expert's hidden features at an index. -/
theorem features_at (p q : FVec Ideal S32768x2816 .f32) (r : Fin 32768) (f : Fin 2816) :
    features p q (ix2 r f) = Layer.swish (p (ix2 r f)) (q (ix2 r f)) := by
  pointwise [features, Layer.swish]
  rfl

/-- One expert's part at an index. -/
theorem part_at (e : Fin 8) (s : S8x1024x2816.Slices ![(e : ℕ), 0, 0] S1x1024x2816)
    (s' : S8x2816x1024.Slices ![(e : ℕ), 0, 0] S1x2816x1024) (s'' : S32768x128.Slices ![0, (e : ℕ)] S32768x1)
    (r : Fin 32768) (d : Fin 1024) :
    part h a wg wu wd e s s' s'' (ix2 r d)
      = a (ix2 r ⟨e, by omega⟩) * ∑ f, Layer.hidden (fun k => h (ix2 r k)) (fun k f => wg (ix3 e k f)) (fun k f => wu (ix3 e k f)) f
          * wd (ix3 e f d) := by
  pointwise [part]
  simp only [features_at, projected_at, Layer.hidden]

/-- The experts' sum at an index. -/
theorem total_at (r : Fin 32768) (d : Fin 1024) :
    total h a wg wu wd (ix2 r d)
      = ∑ e : Fin 8, a (ix2 r ⟨e, by omega⟩) * ∑ f, Layer.hidden (fun k => h (ix2 r k)) (fun k f => wg (ix3 e k f))
          (fun k f => wu (ix3 e k f)) f * wd (ix3 e f d) := by
  pointwise [total]
  simp only [part_at, Fin.sum_univ_eight, zero_add]

/-- The second residual at an index. -/
theorem closing_at (y : FVec Ideal S32768x1024 .f32) (n : Fin 8) (l : Fin 4096) (d : Fin 1024) :
    closing x m y (ix3 n l d)
      = Layer.residual (fun k => x (ix2 ⟨n * 4096 + l, by omega⟩ k)) (fun k => m (ix3 ⟨n, by omega⟩ 5 k))
        (fun k => y (ix2 ⟨n * 4096 + l, by omega⟩ k)) d := by
  pointwise [closing, Layer.residual]

/-- The result at an index. -/
theorem whole_at (r : Fin 32768) (d : Fin 1024) :
    whole h x a m g b wg wu wd (ix2 r d)
      = Layer.normal (Layer.residual (fun k => x (ix2 r k)) (fun k => m (ix3 ⟨(r : ℕ) / 4096, by omega⟩ 5 k))
          (fun d => ∑ e : Fin 8, a (ix2 r ⟨e, by omega⟩) * ∑ f, Layer.hidden (fun k => h (ix2 r k)) (fun k f => wg (ix3 e k f))
            (fun k f => wu (ix3 e k f)) f * wd (ix3 e f d)))
        (fun k => g (ix1 k)) (fun k => b (ix1 k)) d := by
  have hr : (⟨(r : ℕ) / 4096 * 4096 + (r : ℕ) % 4096, by omega⟩ : Fin 32768) = r := Fin.ext (by simp only; omega)
  have e : whole h x a m g b wg wu wd (ix2 r d)
      = normed (closing x m (total h a wg wu wd)) g b (ix3 ⟨(r : ℕ) / 4096, by omega⟩ ⟨(r : ℕ) % 4096, by omega⟩ d) := by
    pointwise [whole]
  rw [e, normed_at]
  simp only [closing_at, total_at, hr]

end

section

variable (V : Valuation τ sig (Elt Ideal))

/-- The reference's second residual. -/
theorem closed : Value.res_main_v128 V = closing (V (Proc.devRef .tc main_arg2)) (V (Proc.devRef .tc main_arg3))
    (total (V (Proc.devRef .tc main_arg0)) (V (Proc.devRef .tc main_arg1)) (V (Proc.devRef .tc main_arg6))
      (V (Proc.devRef .tc main_arg7)) (V (Proc.devRef .tc main_arg8))) := rfl

/-- The reference's result. -/
theorem result : shapeCast S32768x1024 (normed (Value.res_main_v128 V) (V (Proc.devRef .tc main_arg4)) (V (Proc.devRef .tc main_arg5)))
      shapeCasts_S8x4096x1024_S32768x1024
    = whole (V (Proc.devRef .tc main_arg0)) (V (Proc.devRef .tc main_arg2)) (V (Proc.devRef .tc main_arg1))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  rw [closed, whole]

end

end Cert.Proof.ExpertsPlain

end
-- ==== Proof.ExpertsTile.lean ====
/- One tile of the experts: what the body computes for 512 rows and one expert, read at an index. -/
module

public import proofs.«01_k».proof.Proof.Gen.ExpertsIdeal.Skeleton
public import proofs.«01_k».proof.Proof.Layer
public import Idealize.ShloMosaic.Lib.Pipeline.ValueKit
public import Idealize.ShloMosaic.Lib.Pointwise

@[expose] public section

set_option maxRecDepth 16384

noncomputable section

namespace Cert.Proof.ExpertsTile

open Idealize.ShloMosaic Idealize.ShloMosaic.TcCoe Idealize.SL.Sem
open Cert.ExpertsIdeal Cert.ExpertsIdeal.Gen
open Cert.Proof.Layer

/-- A number over one plus an exponential is the number times the logistic. -/
theorem silu (a : EReal) : Ideal.div a (1 + Ideal.exp (0 - a)) = a * Ideal.logistic a := by
  have hy : 1 + Ideal.exp (-a) ≠ 0 := by
    refine ne_of_gt (lt_of_lt_of_le zero_lt_one (le_add_of_nonneg_right ?_))
    induction a using EReal.rec with
    | bot => simp
    | top => simp
    | coe r => rw [← EReal.coe_neg, Ideal.exp_coe]; exact_mod_cast (Real.exp_pos _).le
  unfold Ideal.logistic Ideal.div
  rw [zero_sub, if_neg hy, if_neg hy, one_mul]

/-- What one chunk of the hidden features adds. -/
theorem step_at (h : FVec Ideal S512x1024 .bf16) (g u : FVec Ideal S1x1024x256 .bf16) (w : FVec Ideal S1x256x1024 .bf16)
    (i : Fin 512) (d : Fin 1024) :
    k0_pay14 h g u w (ix2 i d)
      = ∑ f : Fin 256, swish (∑ k, h (ix2 i k) * g (ix3 0 k f)) (∑ k, h (ix2 i k) * u (ix3 0 k f)) * w (ix3 0 f d) := by
  pointwise [k0_pay14, swish, silu]

/-- The weight of an expert. -/
theorem weight_at (e : Fin 8) (x : FVec Ideal S512x128 .f32) (i : Fin 512) :
    k0_pay25 (BitVec.ofNat 32 e) x (ix2 i 0) = x (ix2 i ⟨e, by omega⟩) := by
  pointwise [k0_pay25]
  have same : ∀ (a : Fin 128) (e : Fin 8), IntOp.cmpi .eq (BitVec.ofNat 32 a) (BitVec.ofNat 32 e) = if (a : ℕ) = e then 1#1 else 0#1 := by
    decide +kernel
  rw [Finset.sum_eq_single (⟨e, by omega⟩ : Fin 128)]
  · rw [same, if_pos rfl]; rfl
  · intro a _ ha
    rw [same, if_neg fun h => ha (Fin.ext h)]; rfl
  · intro h; exact absurd (Finset.mem_univ _) h

/-- The first expert's part. -/
theorem fresh_at (e : Fin 8) (x : FVec Ideal S512x128 .f32) (a : FVec Ideal S512x1024 .f32) (i : Fin 512) (d : Fin 1024) :
    k0_pay26 (BitVec.ofNat 32 e) x a (ix2 i d) = x (ix2 i ⟨e, by omega⟩) * a (ix2 i d) := by
  pointwise [k0_pay26, weight_at]

/-- A further expert's part, added to what was there. -/
theorem more_at (e : Fin 8) (x : FVec Ideal S512x128 .f32) (y a : FVec Ideal S512x1024 .f32) (i : Fin 512) (d : Fin 1024) :
    k0_pay27 (BitVec.ofNat 32 e) x y a (ix2 i d) = y (ix2 i d) + x (ix2 i ⟨e, by omega⟩) * a (ix2 i d) := by
  pointwise [k0_pay27, weight_at]

/-- The residual and the norm. -/
theorem last_at (x : FVec Ideal S512x1024 .f32) (m : FVec Ideal S1x1x1x1024 .f32) (y : FVec Ideal S512x1024 .f32)
    (g b : FVec Ideal S1x1024 .f32) (i : Fin 512) (d : Fin 1024) :
    k0_pay1 (F := Ideal) x m y g b (ix2 i d)
      = normal (Layer.residual (fun k => x (ix2 i k)) (fun k => m (ix4 0 0 0 k)) (fun k => y (ix2 i k)))
        (fun k => g (ix2 0 k)) (fun k => b (ix2 0 k)) d := by
  pointwise [k0_pay1, normal, mean, Layer.residual]

/-- Chunk `j`'s columns of the two weights that lead to the hidden features. -/
abbrev columns (j : Fin 11) : Rect S1x1024x2816 :=
  Rect.unit (s := S1x1024x2816) ![0, 0, 256 * (j : ℕ)] S1x1024x256.size (by
    have := j.isLt
    intro a; fin_cases a <;> simp <;> omega)

/-- Chunk `j`'s rows of the weights that lead back. -/
abbrev rows (j : Fin 11) : Rect S1x2816x1024 :=
  Rect.unit (s := S1x2816x1024) ![0, 256 * (j : ℕ), 0] S1x256x1024.size (by
    have := j.isLt
    intro a; fin_cases a <;> simp <;> omega)

/-- What chunk `j` adds, of an expert's whole weights. -/
def step (h : FVec Ideal S512x1024 .bf16) (g u : Vec Ideal S1x1024x2816 .bf16) (w : Vec Ideal S1x2816x1024 .bf16)
    (j : Fin 11) : FVec Ideal S512x1024 .f32 :=
  k0_pay14 h (View.ld g (columns j)) (View.ld u (columns j)) (View.ld w (rows j))

/-- The first chunks' sum: up to chunk `n`. -/
def partly (h : FVec Ideal S512x1024 .bf16) (g u : Vec Ideal S1x1024x2816 .bf16) (w : Vec Ideal S1x2816x1024 .bf16) :
    (n : ℕ) → n < 11 → FVec Ideal S512x1024 .f32
  | 0, hn => step h g u w ⟨0, hn⟩
  | n + 1, hn => addf (partly h g u w n (by omega)) (step h g u w ⟨n + 1, hn⟩)

/-- A sum of 2816 terms, eleven times 256. -/
theorem chunks (G : Fin 2816 → EReal) :
    ∑ f, G f = ∑ j : Fin 11, ∑ s : Fin 256, G ⟨256 * j + s, by omega⟩ := by
  rw [← Fintype.sum_prod_type' (f := fun (j : Fin 11) (s : Fin 256) => G ⟨256 * j + s, by omega⟩)]
  exact (Equiv.sum_comp (finProdFinEquiv (m := 11) (n := 256)) G).symm.trans
    (Finset.sum_congr rfl fun p _ => congrArg G (Fin.ext (by simp [finProdFinEquiv]; omega)))

/-- The first chunks' sum, at an index. -/
theorem partly_at (h : FVec Ideal S512x1024 .bf16) (g u : Vec Ideal S1x1024x2816 .bf16) (w : Vec Ideal S1x2816x1024 .bf16)
    (i : Fin 512) (d : Fin 1024) (n : ℕ) (hn : n < 11) :
    partly h g u w n hn (ix2 i d) = ∑ j : Fin (n + 1), step h g u w ⟨j, by omega⟩ (ix2 i d) := by
  induction n with
  | zero => simp [partly]
  | succ n ih =>
    rw [Fin.sum_univ_castSucc]
    exact congrArg (· + step h g u w ⟨n + 1, hn⟩ (ix2 i d)) (ih (by omega))

/-- An expert's output, at an index. -/
theorem expert_at (h : FVec Ideal S512x1024 .bf16) (g u : Vec Ideal S1x1024x2816 .bf16) (w : Vec Ideal S1x2816x1024 .bf16)
    (i : Fin 512) (d : Fin 1024) :
    partly h g u w 10 (by decide) (ix2 i d)
      = ∑ f, Layer.hidden (fun k => h (ix2 i k)) (fun k f => g (ix3 0 k f)) (fun k f => u (ix3 0 k f)) f * w (ix3 0 f d) := by
  rw [partly_at, chunks]
  refine Finset.sum_congr rfl fun j _ => ?_
  unfold step
  rw [step_at]
  refine Finset.sum_congr rfl fun s _ => ?_
  pointwise [Layer.hidden]

end Cert.Proof.ExpertsTile

end
-- ==== Proof.ExpertsPoint.lean ====
/- One grid point of the experts: what its body leaves in the running sum and in the output block, as whole blocks. -/
module

public import proofs.«01_k».proof.Proof.Gen.ExpertsIdeal.Value
public import proofs.«01_k».proof.Proof.ExpertsTile
public import Idealize.ShloMosaic.Lib.Tactic

@[expose] public section

set_option maxRecDepth 16384

noncomputable section

namespace Cert.Proof.ExpertsPoint

open Idealize.ShloMosaic Idealize.ShloMosaic.TcCoe Idealize.SL.Sem
open Cert.ExpertsIdeal Cert.ExpertsIdeal.Gen
open Cert.Proof.ExpertsTile

/-- The origin of a table. -/
theorem zero2 : (![0, 0] : Fin 2 → ℕ) = fun _ => 0 := funext fun a => by fin_cases a <;> rfl

/-- The origin of a four-axis array. -/
theorem zero4 : (![0, 0, 0, 0] : Fin 4 → ℕ) = fun _ => 0 := funext fun a => by fin_cases a <;> rfl

/-- A whole block read back is the last one written. -/
theorem reread (v : View sig .tc .vmem S512x1024 .f32) {off : Fin 2 → ℕ} (h : off = fun _ => 0)
    (inb : ∀ a, off a + S512x1024.size a ≤ S512x1024.size a) (w : S512x1024.Idx → Elt Ideal .f32)
    (L : List (View.Piece (Elt Ideal) S512x1024 .f32)) :
    v.readCov ((⟨Rect.unit off S512x1024.size inb, w⟩ : View.Piece (Elt Ideal) S512x1024 .f32) :: L)
      (Rect.unit off S512x1024.size inb).toLoadRect = w := by
  subst h
  rw [View.readCov_eq_canon_ld _ _ _ (fun y => ⟨_, List.mem_cons_self, by
    show y ∈ (Rect.whole S512x1024).set
    rw [Rect.set_whole]
    exact Finset.mem_univ y⟩), View.canon_cons_unit_zero (S := S512x1024) rfl, View.ld_unit_zero (S := S512x1024) rfl]

section

variable (v x acc : FVec Ideal S512x1024 .f32) (h : FVec Ideal S512x1024 .bf16) (a b : Vec Ideal S1x1024x256 .bf16)
  (w : Vec Ideal S1x256x1024 .bf16)

/-- The rows as they are. -/
theorem rows_eq : k0_pay2 (F := Ideal) h = h := shapeCast_self ..

/-- What chunk 0 stores: its part alone. -/
theorem chunk0 : k0_pay3 h a b w = k0_pay14 h a b w := by
  unfold k0_pay3 k0_pay14; simp only [shapeCast_self, rows_eq]

/-- What chunk 1 stores: the sum so far and its part, however the text splits the operations. -/
theorem chunk1 : k0_pay7 (k0_pay4 h a) (k0_pay5 h b) (k0_pay6 h a) w acc = addf acc (k0_pay14 h a b w) := by
  unfold k0_pay7 k0_pay6 k0_pay5 k0_pay4 k0_pay14; simp only [shapeCast_self, rows_eq]

/-- What chunk 2 stores: the sum so far and its part, however the text splits the operations. -/
theorem chunk2 : k0_pay9 (k0_pay8 h a b w acc) = addf acc (k0_pay14 h a b w) := by
  unfold k0_pay9 k0_pay8 k0_pay14; simp only [shapeCast_self]

/-- What chunk 3 stores: the sum so far and its part, however the text splits the operations. -/
theorem chunk3 : k0_pay10 h a b w acc = addf acc (k0_pay14 h a b w) := by
  unfold k0_pay10 k0_pay14; simp only [shapeCast_self]

/-- What chunk 4 stores: the sum so far and its part, however the text splits the operations. -/
theorem chunk4 : k0_pay13 (k0_pay11 h a) (k0_pay12 h b) w acc = addf acc (k0_pay14 h a b w) := by
  unfold k0_pay13 k0_pay12 k0_pay11 k0_pay14; simp only [shapeCast_self]

/-- What chunk 5 stores: the sum so far and its part, however the text splits the operations. -/
theorem chunk5 : k0_pay15 (k0_pay14 h a b w) acc = addf acc (k0_pay14 h a b w) := shapeCast_self ..

/-- What chunk 6 stores: the sum so far and its part, however the text splits the operations. -/
theorem chunk6 : k0_pay16 h a b w acc = addf acc (k0_pay14 h a b w) := by
  unfold k0_pay16 k0_pay14; simp only [shapeCast_self]

/-- What chunk 7 stores: the sum so far and its part, however the text splits the operations. -/
theorem chunk7 : k0_pay18 h (k0_pay17 h a) b w acc = addf acc (k0_pay14 h a b w) := by
  unfold k0_pay18 k0_pay17 k0_pay14; simp only [shapeCast_self]

/-- What chunk 8 stores: the sum so far and its part, however the text splits the operations. -/
theorem chunk8 : k0_pay21 (k0_pay19 h a b) (k0_pay20 w) (constant S512x1024 .f32 0x00000000#32) acc = addf acc (k0_pay14 h a b w) := by
  unfold k0_pay21 k0_pay20 k0_pay19 k0_pay14; simp only [shapeCast_self]

/-- What chunk 9 stores: the sum so far and its part, however the text splits the operations. -/
theorem chunk9 : k0_pay22 h a b w acc = addf acc (k0_pay14 h a b w) := by
  unfold k0_pay22 k0_pay14; simp only [shapeCast_self]

/-- What chunk 10 stores: the sum so far and its part, however the text splits the operations. -/
theorem chunk10 : k0_pay24 h (k0_pay23 h a) b w acc = addf acc (k0_pay14 h a b w) := by
  unfold k0_pay24 k0_pay23 k0_pay14; simp only [shapeCast_self]

end

variable (c : Dev nD) (i : grid0.Coords) (arg2 : Memref sig .tc .vmem S512x1024 .bf16) (harg2 : arg2.IsWhole)
  (arg3 : Memref sig .tc .vmem S512x128 .f32) (harg3 : arg3.IsWhole) (arg4 : Memref sig .tc .vmem S512x1024 .f32) (harg4 : arg4.IsWhole)
  (arg5 : Memref sig .tc .vmem S1x1x1x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024x2816 .bf16) (harg8 : arg8.IsWhole)
  (arg9 : Memref sig .tc .vmem S1x1024x2816 .bf16) (harg9 : arg9.IsWhole) (arg10 : Memref sig .tc .vmem S1x2816x1024 .bf16) (harg10 : arg10.IsWhole)
  (arg11 : Memref sig .tc .vmem S512x1024 .f32) (harg11 : arg11.IsWhole) (arg12 : Memref sig .tc .vmem S512x1024 .f32) (harg12 : arg12.IsWhole)
  (arg13 : Memref sig .tc .vmem S512x1024 .f32) (harg13 : arg13.IsWhole)
  (x0 : Vec Ideal S512x1024 .bf16) (x1 : Vec Ideal S512x128 .f32) (x2 : Vec Ideal S512x1024 .f32) (x3 : Vec Ideal S1x1x1x1024 .f32)
  (x4 x5 : Vec Ideal S1x1024 .f32) (x6 x7 : Vec Ideal S1x1024x2816 .bf16) (x8 : Vec Ideal S1x2816x1024 .bf16) (y : Vec Ideal S512x1024 .f32)

/-- The first expert's point: its part is what the running sum holds. -/
theorem opening (h0 : cond0_0 i) (h1 : ¬cond0_1 i) (h2 : ¬cond0_2 i) :
    sout0_A_1 (F := Ideal) c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 x6 x7 x8
      = k0_pay26 (BitVec.ofNat 32 (i 1)) x1 (partly x0 x6 x7 x8 10 (by decide)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 x6 x7 x8)]
  unfold kernelRun0_A
  dsimp only
  sl_unfold_words
  rw [View.canon_cons_unit_zero (S := S512x1024) zero2]
  iterate 11 rw [reread _ zero2]
  simp only [View.readAt_eq_ld, harg2.read_unread, harg3.read_unread, harg8.read_unread, harg9.read_unread,
    harg10.read_unread, View.ld_unit_zero (S := S512x1024) zero2, View.ld_unit_zero (S := S512x128) zero2, rows_eq,
    chunk0, chunk1, chunk2, chunk3, chunk4, chunk5, chunk6, chunk7, chunk8, chunk9, chunk10]
  rfl

/-- A further expert's point, not the last: its part is added to the running sum. -/
theorem further (h0 : ¬cond0_0 i) (h1 : cond0_1 i) (h2 : ¬cond0_2 i) :
    sout0_B_1 (F := Ideal) c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 x6 x7 x8 y
      = k0_pay27 (BitVec.ofNat 32 (i 1)) x1 y (partly x0 x6 x7 x8 10 (by decide)) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 x6 x7 x8 y)]
  unfold kernelRun0_B
  dsimp only
  sl_unfold_words
  rw [View.canon_cons_unit_zero (S := S512x1024) zero2]
  iterate 11 rw [reread _ zero2]
  simp only [View.readAt_eq_ld, harg2.read_unread, harg3.read_unread, harg8.read_unread, harg9.read_unread,
    harg10.read_unread, harg13.read_unread, View.ld_unit_zero (S := S512x1024) zero2, View.ld_unit_zero (S := S512x128) zero2, rows_eq,
    chunk0, chunk1, chunk2, chunk3, chunk4, chunk5, chunk6, chunk7, chunk8, chunk9, chunk10]
  rfl

/-- The last expert's point: the output block. -/
theorem closing (h0 : ¬cond0_0 i) (h1 : cond0_1 i) (h2 : cond0_2 i) :
    out0_C_9 (F := Ideal) c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 x6 x7 x8 y
      = k0_pay1 x2 x3 (k0_pay27 (BitVec.ofNat 32 (i 1)) x1 y (partly x0 x6 x7 x8 10 (by decide))) x4 x5 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 h0 h1 h2 x0 x1 x2 x3 x4 x5 x6 x7 x8 y)]
  unfold kernelRun0_C
  dsimp only
  sl_unfold_words
  rw [View.canon_cons_unit_zero (S := S512x1024) zero2]
  iterate 12 rw [reread _ zero2]
  simp only [View.readAt_eq_ld, harg2.read_unread, harg3.read_unread, harg4.read_unread, harg5.read_unread, harg6.read_unread,
    harg7.read_unread, harg8.read_unread, harg9.read_unread,
    harg10.read_unread, harg13.read_unread, View.ld_unit_zero (S := S512x1024) zero2, View.ld_unit_zero (S := S512x128) zero2,
    View.ld_unit_zero (S := S1x1024) zero2, View.ld_unit_zero (S := S1x1x1x1024) zero4, rows_eq,
    chunk0, chunk1, chunk2, chunk3, chunk4, chunk5, chunk6, chunk7, chunk8, chunk9, chunk10]
  rfl

end Cert.Proof.ExpertsPoint

end
-- ==== Proof.ExpertsBlocks.lean ====
/- The blocks a point of the experts reads. -/
module

public import proofs.«01_k».proof.Proof.Gen.ExpertsIdeal.Frame
public import Idealize.ShloMosaic.Lib.Pipeline.ValueKit
public import Idealize.ShloMosaic.Lib.Pointwise

@[expose] public section

set_option maxRecDepth 16384

noncomputable section

namespace Cert.Proof.ExpertsBlocks

open Idealize.ShloMosaic Idealize.ShloMosaic.TcCoe Idealize.SL.Sem
open Idealize.ShloMosaic.Pipeline (Dat)
open Cert.ExpertsIdeal Cert.ExpertsIdeal.Gen

variable (m : (ℓ : Loc nD τ sig) → Buf (Elt Ideal) ℓ) (c : Dev nD)

/-- Where the blocks lie: the rows move with the tile, the weights with the expert, the modulation with the tile's batch. -/
theorem idx : ∀ t : Fin cfg0.N,
    win0_0.index t = ![(t : ℕ) / 8, 0] ∧ win0_1.index t = ![(t : ℕ) / 8, 0] ∧ win0_2.index t = ![(t : ℕ) / 8, 0]
      ∧ win0_3.index t = ![(t : ℕ) / 64, 5, 0, 0] ∧ win0_4.index t = ![0, 0] ∧ win0_5.index t = ![0, 0]
      ∧ win0_6.index t = ![(t : ℕ) % 8, 0, 0] ∧ win0_7.index t = ![(t : ℕ) % 8, 0, 0]
      ∧ win0_8.index t = ![(t : ℕ) % 8, 0, 0] ∧ win0_9.index t = ![(t : ℕ) / 8, 0] ∧ (grid0.coords t 1 : ℕ) = (t : ℕ) % 8 :=
  (by decide +kernel : ∀ t : Fin grid0.N, _)

/-- The rows of a point. -/
theorem rows_block (t : Fin cfg0.N) (i : Fin 512) (x : Fin 1024) (r : Fin 32768) (hr : (r : ℕ) = 512 * ((t : ℕ) / 8) + i) :
    (iblk m c 0 t : FVec Ideal S512x1024 .bf16) (ix2 i x) = m ((c.tc : Thread nD τ).loc main_arg0) (ix2 r x) := by
  blk_ext! [iblk, V, idx t]

/-- The gates of a point's rows. -/
theorem gates_block (t : Fin cfg0.N) (i : Fin 512) (x : Fin 128) (r : Fin 32768) (hr : (r : ℕ) = 512 * ((t : ℕ) / 8) + i) :
    (iblk m c 1 t : FVec Ideal S512x128 .f32) (ix2 i x) = m ((c.tc : Thread nD τ).loc main_arg1) (ix2 r x) := by
  blk_ext! [iblk, V, idx t]

/-- The stream's rows of a point. -/
theorem stream_block (t : Fin cfg0.N) (i : Fin 512) (x : Fin 1024) (r : Fin 32768) (hr : (r : ℕ) = 512 * ((t : ℕ) / 8) + i) :
    (iblk m c 2 t : FVec Ideal S512x1024 .f32) (ix2 i x) = m ((c.tc : Thread nD τ).loc main_arg2) (ix2 r x) := by
  blk_ext! [iblk, V, idx t]

/-- The modulation of a point's batch. -/
theorem modulation_block (t : Fin cfg0.N) (x : Fin 1024) (n : Fin 16) (hn : (n : ℕ) = (t : ℕ) / 64) :
    (iblk m c 3 t : FVec Ideal S1x1x1x1024 .f32) (ix4 0 0 0 x) = m ((c.tc : Thread nD τ).loc main_arg3) (ix3 n 5 x) := by
  blk_simp [iblk, idx t]
  entry_read
  pointwise
  refine congrArg (m ((c.tc : Thread nD τ).loc main_arg3)) ?_
  blk_ext [idx t]

/-- The norm's scale. -/
theorem scale_block (t : Fin cfg0.N) (k : Fin 1024) :
    (iblk m c 4 t : FVec Ideal S1x1024 .f32) (ix2 0 k) = m ((c.tc : Thread nD τ).loc main_arg4) (ix1 k) := by
  blk_simp [iblk, idx t]
  entry_read
  pointwise
  refine congrArg (m ((c.tc : Thread nD τ).loc main_arg4)) ?_
  blk_ext [idx t]

/-- The norm's shift. -/
theorem shift_block (t : Fin cfg0.N) (k : Fin 1024) :
    (iblk m c 5 t : FVec Ideal S1x1024 .f32) (ix2 0 k) = m ((c.tc : Thread nD τ).loc main_arg5) (ix1 k) := by
  blk_simp [iblk, idx t]
  entry_read
  pointwise
  refine congrArg (m ((c.tc : Thread nD τ).loc main_arg5)) ?_
  blk_ext [idx t]

/-- The gate's weights of a point's expert. -/
theorem gate_block (t : Fin cfg0.N) (k : Fin 1024) (f : Fin 2816) (e : Fin 8) (he : (e : ℕ) = (t : ℕ) % 8) :
    (iblk m c 6 t : FVec Ideal S1x1024x2816 .bf16) (ix3 0 k f) = m ((c.tc : Thread nD τ).loc main_arg6) (ix3 e k f) := by
  blk_ext! [iblk, V, idx t]

/-- The other factor's weights of a point's expert. -/
theorem up_block (t : Fin cfg0.N) (k : Fin 1024) (f : Fin 2816) (e : Fin 8) (he : (e : ℕ) = (t : ℕ) % 8) :
    (iblk m c 7 t : FVec Ideal S1x1024x2816 .bf16) (ix3 0 k f) = m ((c.tc : Thread nD τ).loc main_arg7) (ix3 e k f) := by
  blk_ext! [iblk, V, idx t]

/-- The weights back to the stream of a point's expert. -/
theorem down_block (t : Fin cfg0.N) (f : Fin 2816) (d : Fin 1024) (e : Fin 8) (he : (e : ℕ) = (t : ℕ) % 8) :
    (iblk m c 8 t : FVec Ideal S1x2816x1024 .bf16) (ix3 0 f d) = m ((c.tc : Thread nD τ).loc main_arg8) (ix3 e f d) := by
  blk_ext! [iblk, V, idx t]

end Cert.Proof.ExpertsBlocks

end
-- ==== Proof.ExpertsFinal.lean ====
/- The experts: the kernel's run, and its result set beside the plain one. -/
module

public import proofs.«01_k».proof.Proof.ExpertsPoint
public import proofs.«01_k».proof.Proof.ExpertsBlocks
public import proofs.«01_k».proof.Proof.ExpertsPlain
public import proofs.«01_k».proof.Proof.Gen.ExpertsIdeal.Value

@[expose] public section

set_option maxRecDepth 16384

noncomputable section

namespace Cert.Proof.ExpertsFinal

open Idealize.ShloMosaic Idealize.ShloMosaic.TcCoe Idealize.SL.Sem
open Idealize.ShloMosaic.Pipeline (Dat)
open Cert.ExpertsIdeal Cert.ExpertsIdeal.Gen
open Cert.Proof.ExpertsTile

variable (m : (ℓ : Loc nD τ sig) → Buf (Elt Ideal) ℓ) (c : Dev nD)

/-- The plain result of the launch's arguments. -/
abbrev plain : FVec Ideal S32768x1024 .f32 :=
  ExpertsPlain.whole (m ((c.tc : Thread nD τ).loc main_arg0)) (m ((c.tc : Thread nD τ).loc main_arg2))
    (m ((c.tc : Thread nD τ).loc main_arg1)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

section

variable (h : FVec Ideal S32768x1024 .f32) (a : FVec Ideal S32768x128 .f32) (wg wu : FVec Ideal S8x1024x2816 .f32)
  (wd : FVec Ideal S8x2816x1024 .f32)

/-- One expert's output at a row and column. -/
def output (e : Fin 8) (r : Fin 32768) (d : Fin 1024) : EReal :=
  ∑ f, Layer.hidden (fun k => h (ix2 r k)) (fun k f => wg (ix3 e k f)) (fun k f => wu (ix3 e k f)) f * wd (ix3 e f d)

/-- One expert's part of the sum, its output times its gate; zero past the last expert. -/
def part (r : Fin 32768) (d : Fin 1024) (e : ℕ) : EReal :=
  if he : e < 8 then a (ix2 r ⟨e, by omega⟩) * output h wg wu wd ⟨e, he⟩ r d else 0

/-- The part of an expert there is. -/
theorem part_eq (r : Fin 32768) (d : Fin 1024) (e : ℕ) (he : e < 8) :
    part h a wg wu wd r d e = a (ix2 r ⟨e, by omega⟩) * output h wg wu wd ⟨e, he⟩ r d := dif_pos he

end

/-- One expert's output, from the launch's arguments. -/
abbrev outputOf : Fin 8 → Fin 32768 → Fin 1024 → EReal :=
  output (m ((c.tc : Thread nD τ).loc main_arg0)) (m ((c.tc : Thread nD τ).loc main_arg6))
    (m ((c.tc : Thread nD τ).loc main_arg7)) (m ((c.tc : Thread nD τ).loc main_arg8))

/-- One expert's part of the sum, from the launch's arguments. -/
abbrev partOf : Fin 32768 → Fin 1024 → ℕ → EReal :=
  part (m ((c.tc : Thread nD τ).loc main_arg0)) (m ((c.tc : Thread nD τ).loc main_arg1)) (m ((c.tc : Thread nD τ).loc main_arg6))
    (m ((c.tc : Thread nD τ).loc main_arg7)) (m ((c.tc : Thread nD τ).loc main_arg8))

/-- The eleven chunks of a point together are its expert's output. -/
theorem output_at (t : Fin cfg0.N) (i : Fin 512) (d : Fin 1024) (r : Fin 32768) (hr : (r : ℕ) = 512 * ((t : ℕ) / 8) + i)
    (e : Fin 8) (he : (e : ℕ) = (t : ℕ) % 8) :
    partly (iblk m c 0 t) (iblk m c 6 t) (iblk m c 7 t) (iblk m c 8 t) 10 (by decide) (ix2 i d) = outputOf m c e r d := by
  refine (expert_at _ _ _ _ i d).trans ?_
  unfold outputOf output
  simp only [ExpertsBlocks.rows_block m c t i _ r hr, ExpertsBlocks.gate_block m c t _ _ e he,
    ExpertsBlocks.up_block m c t _ _ e he, ExpertsBlocks.down_block m c t _ _ e he]

/-- What the first expert's point leaves in the running sum. -/
theorem first_point (t : Fin cfg0.N) (h0 : t.val % 8 = 0) (i : Fin 512) (d : Fin 1024) (r : Fin 32768)
    (hr : (r : ℕ) = 512 * ((t : ℕ) / 8) + i) :
    k0_pay26 (BitVec.ofNat 32 (grid0.coords t 1)) (iblk m c 1 t)
        (partly (iblk m c 0 t) (iblk m c 6 t) (iblk m c 7 t) (iblk m c 8 t) 10 (by decide)) (ix2 i d)
      = partOf m c r d ((t : ℕ) % 8) := by
  have he : (t : ℕ) % 8 < 8 := Nat.mod_lt _ (by decide)
  rw [(ExpertsBlocks.idx t).2.2.2.2.2.2.2.2.2.2]
  refine (fresh_at ⟨_, he⟩ (iblk m c 1 t) _ i d).trans ?_
  rw [output_at m c t i d r hr ⟨_, he⟩ rfl, ExpertsBlocks.gates_block m c t i _ r hr]
  exact (part_eq _ _ _ _ _ r d _ he).symm

/-- What a further expert's point leaves in the running sum. -/
theorem further_point (t : Fin cfg0.N) (y : FVec Ideal S512x1024 .f32) (i : Fin 512) (d : Fin 1024) (r : Fin 32768)
    (hr : (r : ℕ) = 512 * ((t : ℕ) / 8) + i) :
    k0_pay27 (BitVec.ofNat 32 (grid0.coords t 1)) (iblk m c 1 t) y
        (partly (iblk m c 0 t) (iblk m c 6 t) (iblk m c 7 t) (iblk m c 8 t) 10 (by decide)) (ix2 i d)
      = y (ix2 i d) + partOf m c r d ((t : ℕ) % 8) := by
  have he : (t : ℕ) % 8 < 8 := Nat.mod_lt _ (by decide)
  rw [(ExpertsBlocks.idx t).2.2.2.2.2.2.2.2.2.2]
  refine (more_at ⟨_, he⟩ (iblk m c 1 t) y _ i d).trans ?_
  rw [output_at m c t i d r hr ⟨_, he⟩ rfl, ExpertsBlocks.gates_block m c t i _ r hr]
  exact congrArg (y (ix2 i d) + ·) (part_eq _ _ _ _ _ r d _ he).symm

/-- The running sum after a first expert's point. -/
theorem after_first (t : Fin cfg0.N) (h0 : t.val % 8 = 0) :
    (outsAt0 m c t.val t.isLt).2 = k0_pay26 (BitVec.ofNat 32 (grid0.coords t 1)) (iblk m c 1 t)
      (partly (iblk m c 0 t) (iblk m c 6 t) (iblk m c 7 t) (iblk m c 8 t) 10 (by decide)) := by
  rw [outsAt0_A m c t h0 (by omega) (by omega)]
  dsimp only
  rw [ExpertsPoint.opening]

/-- The running sum after the point of an expert that is neither the first nor the last. -/
theorem after_further (t : Fin cfg0.N) (h0 : ¬t.val % 8 = 0) (h7 : ¬t.val % 8 = 7) :
    (outsAt0 m c t.val t.isLt).2 = k0_pay27 (BitVec.ofNat 32 (grid0.coords t 1)) (iblk m c 1 t)
      (outsAt0 m c (t.val - 1) (Nat.lt_of_le_of_lt (Nat.sub_le _ _) t.isLt)).2
      (partly (iblk m c 0 t) (iblk m c 6 t) (iblk m c 7 t) (iblk m c 8 t) 10 (by decide)) := by
  rw [outsAt0_B m c t h0 (by omega) h7]
  dsimp only
  rw [ExpertsPoint.further]

/-- The output block after a last expert's point. -/
theorem after_last (t : Fin cfg0.N) (h7 : t.val % 8 = 7) :
    (outsAt0 m c t.val t.isLt).1 = k0_pay1 (iblk m c 2 t) (iblk m c 3 t) (k0_pay27 (BitVec.ofNat 32 (grid0.coords t 1)) (iblk m c 1 t)
      (outsAt0 m c (t.val - 1) (Nat.lt_of_le_of_lt (Nat.sub_le _ _) t.isLt)).2
      (partly (iblk m c 0 t) (iblk m c 6 t) (iblk m c 7 t) (iblk m c 8 t) 10 (by decide))) (iblk m c 4 t) (iblk m c 5 t) := by
  rw [outsAt0_C m c t (by omega) (by omega) h7]
  dsimp only
  rw [ExpertsPoint.closing]

/-- After the point of an expert that is not the last, the running sum holds the parts of the experts so far. -/
theorem running (n : ℕ) : ∀ (h : n < cfg0.N), n % 8 ≠ 7 → ∀ (i : Fin 512) (d : Fin 1024) (r : Fin 32768),
    (r : ℕ) = 512 * (n / 8) + i →
    (outsAt0 m c n h).2 (ix2 i d) = ∑ e ∈ Finset.range (n % 8 + 1), partOf m c r d e := by
  induction n with
  | zero =>
    intro h h7 i d r hr
    refine (congrFun (after_first m c ⟨0, h⟩ rfl) _).trans ((first_point m c ⟨0, h⟩ rfl i d r hr).trans ?_)
    simp
  | succ n ih =>
    intro h h7 i d r hr
    by_cases h0 : (n + 1) % 8 = 0
    · refine (congrFun (after_first m c ⟨n + 1, h⟩ h0) _).trans ((first_point m c ⟨n + 1, h⟩ h0 i d r hr).trans ?_)
      simp only [h0, Finset.range_one, Finset.sum_singleton, Nat.zero_add]
    · refine (congrFun (after_further m c ⟨n + 1, h⟩ h0 h7) _).trans ((further_point m c ⟨n + 1, h⟩ _ i d r hr).trans ?_)
      rw [Finset.sum_range_succ]
      refine congrArg (· + _) ((ih (by omega) (by omega) i d r (by omega)).trans ?_)
      rw [show (n + 1) % 8 = n % 8 + 1 by omega]

/-- What the last expert's point writes at a row and column of its output block is the plain result there. -/
theorem point (t : Fin cfg0.N) (h7 : t.val % 8 = 7) (i : Fin 512) (d : Fin 1024) (r : Fin 32768)
    (hr : (r : ℕ) = 512 * ((t : ℕ) / 8) + i) :
    (outsAt0 m c t.val t.isLt).1 (ix2 i d) = plain m c (ix2 r d) := by
  refine (congrFun (after_last m c t h7) _).trans ((last_at _ _ _ _ _ i d).trans ?_)
  refine Eq.trans ?_ (ExpertsPlain.whole_at _ _ _ _ _ _ _ _ _ r d).symm
  have total (d : Fin 1024) : k0_pay27 (BitVec.ofNat 32 (grid0.coords t 1)) (iblk m c 1 t)
        (outsAt0 m c (t.val - 1) (Nat.lt_of_le_of_lt (Nat.sub_le _ _) t.isLt)).2
        (partly (iblk m c 0 t) (iblk m c 6 t) (iblk m c 7 t) (iblk m c 8 t) 10 (by decide)) (ix2 i d)
      = ∑ e : Fin 8, partOf m c r d e := by
    refine (further_point m c t _ i d r hr).trans ?_
    rw [running m c (t.val - 1) _ (by omega) i d r (by omega), ← Finset.sum_range (partOf m c r d), Finset.sum_range_succ _ 7,
      show (t.val - 1) % 8 + 1 = 7 by omega, h7]
  simp only [total, ExpertsBlocks.stream_block m c t i _ r hr, ExpertsBlocks.scale_block m c t, ExpertsBlocks.shift_block m c t,
    ExpertsBlocks.modulation_block m c t _ ⟨(r : ℕ) / 4096, by omega⟩ (by simp only; omega)]
  refine congrArg (fun y => Layer.normal (Layer.residual _ _ y) _ _ d) (funext fun d => Finset.sum_congr rfl fun e _ => ?_)
  exact part_eq _ _ _ _ _ r d _ e.isLt

/-- The array the kernel leaves is the plain result. -/
theorem final : (dats m 0 c).arrAt 9 cfg0.N = plain m c := by
  refine (dats m 0 c).arrAt_eq_of_covers 9 _ (by decide +kernel) fun t hf y => ?_
  blk_simp
  rw [after0_9]
  idx_vars y
  have ht : t.val < 512 := Nat.lt_of_lt_of_eq t.isLt N_0
  refine (point m c t ((flush0_9 t).mp hf) y0 y1 ⟨512 * ((t : ℕ) / 8) + y0, by omega⟩ rfl).trans (congrArg _ ?_)
  blk_ext [ExpertsBlocks.idx t]

/-- The kernel runs, leaves the plain result, and its arguments as they were. -/
theorem run (ρ : Dev nD → PrngReg) :
    θ_run defs (onTc (τ := τ) (main (F := Ideal))) ⟨m, fun _ => 0, ρ⟩ fun r => ∀ c : Dev nD,
      r.2.mem ((c : Thread nD τ).loc main_v7) = plain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks (F := Ideal) m ρ)

end Cert.Proof.ExpertsFinal

end
-- ==== Proof.DensePlain.lean ====
/- The plain dense feed-forward, read at an index. -/
module

public import proofs.«01_k».proof.Proof.Gen.DenseReferenceIdeal.Run
public import proofs.«01_k».proof.Proof.Layer
public import Idealize.ShloMosaic.Lib.Pointwise

@[expose] public section

set_option maxRecDepth 16384

noncomputable section

namespace Cert.Proof.DensePlain

open Idealize.ShloMosaic Idealize.ShloMosaic.TcCoe Idealize.SL.Sem
open Cert.DenseReferenceIdeal Cert.DenseReferenceIdeal.Gen

section

variable (h x : FVec Ideal S32768x1024 .f32) (m : FVec Ideal S16x6x1024 .f32)
  (g b : FVec Ideal S1024 .f32) (wg wu : FVec Ideal S1024x2816 .f32) (wd : FVec Ideal S2816x1024 .f32)

/-- The means of the rows. -/
def means (x : FVec Ideal S8x4096x1024 .f32) : FVec Ideal S8x4096x1 .f32 :=
  Host.divf (broadcastInDim S8x4096x1 ![0, 1] bcast_S8x4096_S8x4096x1_0_1
      (Host.reduceAdd x (constant S_ .f32 0x00000000#32) reducesTo_S8x4096x1024_S8x4096_d2 h_S_))
    (broadcastInDim S8x4096x1 ![] bcast_S_S8x4096x1 (constant S_ .f32 0x44800000#32))

/-- The deviations from the means. -/
def deviations (x : FVec Ideal S8x4096x1024 .f32) : FVec Ideal S8x4096x1024 .f32 :=
  subf x (broadcastInDim S8x4096x1024 ![0, 1, 2] bcast_S8x4096x1_S8x4096x1024_0_1_2 (means x))

/-- Layer norm. -/
def normed (x : FVec Ideal S8x4096x1024 .f32) (g b : FVec Ideal S1024 .f32) : FVec Ideal S8x4096x1024 .f32 :=
  addf (mulf (mulf (deviations x) (broadcastInDim S8x4096x1024 ![0, 1, 2] bcast_S8x4096x1_S8x4096x1024_0_1_2
      (Host.rsqrt (addf (means (mulf (deviations x) (deviations x)))
        (broadcastInDim S8x4096x1 ![] bcast_S_S8x4096x1 (constant S_ .f32 0x3727C5AC#32))))))
      (broadcastInDim S8x4096x1024 ![0, 1, 2] bcast_S1x1x1024_S8x4096x1024_0_1_2
        (broadcastInDim S1x1x1024 ![2] bcast_S1024_S1x1x1024_2 g)))
    (broadcastInDim S8x4096x1024 ![0, 1, 2] bcast_S1x1x1024_S8x4096x1024_0_1_2
      (broadcastInDim S1x1x1024 ![2] bcast_S1024_S1x1x1024_2 b))

/-- A projection of the rows. -/
def projected (w : FVec Ideal S1024x2816 .f32) : FVec Ideal S32768x2816 .f32 :=
  Host.dotGeneral dot_S32768x1024_S1024x2816_S32768x2816_1_0_0_1_n_n none h w

/-- The hidden features. -/
def features (p q : FVec Ideal S32768x2816 .f32) : FVec Ideal S32768x2816 .f32 :=
  mulf (mulf p (Host.divf (broadcastInDim S32768x2816 ![] bcast_S_S32768x2816 (constant S_ .f32 0x3F800000#32))
    (addf (broadcastInDim S32768x2816 ![] bcast_S_S32768x2816 (constant S_ .f32 0x3F800000#32)) (Host.exp (Host.negf p))))) q

/-- The feed-forward's output. -/
def feed : FVec Ideal S32768x1024 .f32 :=
  Host.dotGeneral dot_S32768x2816_S2816x1024_S32768x1024_1_0_0_1_n_n none (features (projected h wg) (projected h wu)) wd

/-- The second residual. -/
def closing (y : FVec Ideal S32768x1024 .f32) : FVec Ideal S8x4096x1024 .f32 :=
  addf (mulf (broadcastInDim S8x4096x1024 ![] bcast_S_S8x4096x1024 (constant S_ .f32 0x3FB504F3#32))
      (shapeCast _ x shapeCasts_S32768x1024_S8x4096x1024))
    (mulf (broadcastInDim S8x4096x1024 ![0, 1, 2] bcast_S8x1x1024_S8x4096x1024_0_1_2
        (extractStridedSlice S8x1x1024 ![0, 5, 0] m slices_S16x6x1024_S8x1x1024_0_5_0))
      (shapeCast _ y shapeCasts_S32768x1024_S8x4096x1024))

/-- The result. -/
def whole : FVec Ideal S32768x1024 .f32 :=
  shapeCast _ (normed (closing x m (feed h wg wu wd)) g b) shapeCasts_S8x4096x1024_S32768x1024

/-- Layer norm at an index. -/
theorem normed_at (x : FVec Ideal S8x4096x1024 .f32) (g b : FVec Ideal S1024 .f32) (n : Fin 8) (l : Fin 4096) (d : Fin 1024) :
    normed x g b (ix3 n l d)
      = Layer.normal (fun k => x (ix3 n l k)) (fun k => g (ix1 k)) (fun k => b (ix1 k)) d := by
  pointwise [normed, deviations, means, Layer.normal, Layer.mean]

/-- A projection at an index. -/
theorem projected_at (w : FVec Ideal S1024x2816 .f32) (r : Fin 32768) (f : Fin 2816) :
    projected h w (ix2 r f) = ∑ k, h (ix2 r k) * w (ix2 k f) := by
  pointwise [projected]

/-- The hidden features at an index. -/
theorem features_at (p q : FVec Ideal S32768x2816 .f32) (r : Fin 32768) (f : Fin 2816) :
    features p q (ix2 r f) = Layer.swish (p (ix2 r f)) (q (ix2 r f)) := by
  pointwise [features, Layer.swish]
  rfl

/-- The feed-forward's output at an index. -/
theorem feed_at (r : Fin 32768) (d : Fin 1024) :
    feed h wg wu wd (ix2 r d)
      = ∑ f, Layer.hidden (fun k => h (ix2 r k)) (fun k f => wg (ix2 k f)) (fun k f => wu (ix2 k f)) f * wd (ix2 f d) := by
  pointwise [feed]
  simp only [features_at, projected_at, Layer.hidden]

/-- The second residual at an index. -/
theorem closing_at (y : FVec Ideal S32768x1024 .f32) (n : Fin 8) (l : Fin 4096) (d : Fin 1024) :
    closing x m y (ix3 n l d)
      = Layer.residual (fun k => x (ix2 ⟨n * 4096 + l, by omega⟩ k)) (fun k => m (ix3 ⟨n, by omega⟩ 5 k))
        (fun k => y (ix2 ⟨n * 4096 + l, by omega⟩ k)) d := by
  pointwise [closing, Layer.residual]

/-- The result at an index. -/
theorem whole_at (r : Fin 32768) (d : Fin 1024) :
    whole h x m g b wg wu wd (ix2 r d)
      = Layer.normal (Layer.residual (fun k => x (ix2 r k)) (fun k => m (ix3 ⟨(r : ℕ) / 4096, by omega⟩ 5 k))
          (fun d => ∑ f, Layer.hidden (fun k => h (ix2 r k)) (fun k f => wg (ix2 k f)) (fun k f => wu (ix2 k f)) f * wd (ix2 f d)))
        (fun k => g (ix1 k)) (fun k => b (ix1 k)) d := by
  have hr : (⟨(r : ℕ) / 4096 * 4096 + (r : ℕ) % 4096, by omega⟩ : Fin 32768) = r := Fin.ext (by simp only; omega)
  have e : whole h x m g b wg wu wd (ix2 r d)
      = normed (closing x m (feed h wg wu wd)) g b (ix3 ⟨(r : ℕ) / 4096, by omega⟩ ⟨(r : ℕ) % 4096, by omega⟩ d) := by
    pointwise [whole]
  rw [e, normed_at]
  simp only [closing_at, feed_at, hr]

end

/-- The reference's result. -/
theorem result (m : (ℓ : Loc nD τ sig) → Buf (Elt Ideal) ℓ) (c : Dev nD) : Value.res_main_v37 m c
    = whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := rfl

end Cert.Proof.DensePlain

end
-- ==== Proof.DenseTile.lean ====
/- One tile of the dense feed-forward: what the body computes for 512 rows, read at an index. -/
module

public import proofs.«01_k».proof.Proof.Gen.DenseIdeal.Skeleton
public import proofs.«01_k».proof.Proof.ExpertsTile

@[expose] public section

set_option maxRecDepth 16384

noncomputable section

namespace Cert.Proof.DenseTile

open Idealize.ShloMosaic Idealize.ShloMosaic.TcCoe Idealize.SL.Sem
open Cert.DenseIdeal Cert.DenseIdeal.Gen
open Cert.Proof.Layer

/-- What one chunk of the hidden features adds. -/
theorem step_at (h : FVec Ideal S512x1024 .bf16) (g u : FVec Ideal S1024x256 .bf16) (w : FVec Ideal S256x1024 .bf16)
    (i : Fin 512) (d : Fin 1024) :
    k0_pay2 (F := Ideal) h g u w (ix2 i d)
      = ∑ f : Fin 256, swish (∑ k, h (ix2 i k) * g (ix2 k f)) (∑ k, h (ix2 i k) * u (ix2 k f)) * w (ix2 f d) := by
  pointwise [k0_pay2, k0_pay1, swish, ExpertsTile.silu]

/-- The residual and the norm. -/
theorem last_at (x : FVec Ideal S512x1024 .f32) (m : FVec Ideal S1x1x1x1024 .f32) (y : FVec Ideal S512x1024 .f32)
    (g b : FVec Ideal S1x1024 .f32) (i : Fin 512) (d : Fin 1024) :
    k0_pay23 (F := Ideal) x m y g b (ix2 i d)
      = normal (Layer.residual (fun k => x (ix2 i k)) (fun k => m (ix4 0 0 0 k)) (fun k => y (ix2 i k)))
        (fun k => g (ix2 0 k)) (fun k => b (ix2 0 k)) d := by
  pointwise [k0_pay23, normal, mean, Layer.residual]

/-- Chunk `j`'s columns of the two weights that lead to the hidden features. -/
abbrev columns (j : Fin 11) : Rect S1024x2816 :=
  Rect.unit (s := S1024x2816) ![0, 256 * (j : ℕ)] S1024x256.size (by
    have := j.isLt
    intro a; fin_cases a <;> simp <;> omega)

/-- Chunk `j`'s rows of the weights that lead back. -/
abbrev rows (j : Fin 11) : Rect S2816x1024 :=
  Rect.unit (s := S2816x1024) ![256 * (j : ℕ), 0] S256x1024.size (by
    have := j.isLt
    intro a; fin_cases a <;> simp <;> omega)

/-- What chunk `j` adds, of the whole weights. -/
def step (h : FVec Ideal S512x1024 .bf16) (g u : Vec Ideal S1024x2816 .bf16) (w : Vec Ideal S2816x1024 .bf16)
    (j : Fin 11) : FVec Ideal S512x1024 .f32 :=
  k0_pay2 h (View.ld g (columns j)) (View.ld u (columns j)) (View.ld w (rows j))

/-- The first chunks' sum: up to chunk `n`. -/
def partly (h : FVec Ideal S512x1024 .bf16) (g u : Vec Ideal S1024x2816 .bf16) (w : Vec Ideal S2816x1024 .bf16) :
    (n : ℕ) → n < 11 → FVec Ideal S512x1024 .f32
  | 0, hn => step h g u w ⟨0, hn⟩
  | n + 1, hn => addf (partly h g u w n (by omega)) (step h g u w ⟨n + 1, hn⟩)

/-- The first chunks' sum, at an index. -/
theorem partly_at (h : FVec Ideal S512x1024 .bf16) (g u : Vec Ideal S1024x2816 .bf16) (w : Vec Ideal S2816x1024 .bf16)
    (i : Fin 512) (d : Fin 1024) (n : ℕ) (hn : n < 11) :
    partly h g u w n hn (ix2 i d) = ∑ j : Fin (n + 1), step h g u w ⟨j, by omega⟩ (ix2 i d) := by
  induction n with
  | zero => simp [partly]
  | succ n ih =>
    rw [Fin.sum_univ_castSucc]
    exact congrArg (· + step h g u w ⟨n + 1, hn⟩ (ix2 i d)) (ih (by omega))

/-- The feed-forward's output, at an index. -/
theorem feed_at (h : FVec Ideal S512x1024 .bf16) (g u : Vec Ideal S1024x2816 .bf16) (w : Vec Ideal S2816x1024 .bf16)
    (i : Fin 512) (d : Fin 1024) :
    partly h g u w 10 (by decide) (ix2 i d)
      = ∑ f, Layer.hidden (fun k => h (ix2 i k)) (fun k f => g (ix2 k f)) (fun k f => u (ix2 k f)) f * w (ix2 f d) := by
  rw [partly_at, ExpertsTile.chunks]
  refine Finset.sum_congr rfl fun j _ => ?_
  unfold step
  rw [step_at]
  refine Finset.sum_congr rfl fun s _ => ?_
  pointwise [Layer.hidden]

end Cert.Proof.DenseTile

end
-- ==== Proof.DensePoint.lean ====
/- One grid point of the dense feed-forward: what its body leaves in the output block, as a whole block. -/
module

public import proofs.«01_k».proof.Proof.Gen.DenseIdeal.Value
public import proofs.«01_k».proof.Proof.DenseTile
public import Idealize.ShloMosaic.Lib.Tactic

@[expose] public section

set_option maxRecDepth 16384

noncomputable section

namespace Cert.Proof.DensePoint

open Idealize.ShloMosaic Idealize.ShloMosaic.TcCoe Idealize.SL.Sem
open Cert.DenseIdeal Cert.DenseIdeal.Gen
open Cert.Proof.DenseTile

/-- The origin of a table. -/
theorem zero2 : (![0, 0] : Fin 2 → ℕ) = fun _ => 0 := funext fun a => by fin_cases a <;> rfl

/-- The origin of a four-axis array. -/
theorem zero4 : (![0, 0, 0, 0] : Fin 4 → ℕ) = fun _ => 0 := funext fun a => by fin_cases a <;> rfl

/-- A whole block read back is the last one written. -/
theorem reread (v : View sig .tc .vmem S512x1024 .f32) {off : Fin 2 → ℕ} (h : off = fun _ => 0)
    (inb : ∀ a, off a + S512x1024.size a ≤ S512x1024.size a) (w : S512x1024.Idx → Elt Ideal .f32)
    (L : List (View.Piece (Elt Ideal) S512x1024 .f32)) :
    v.readCov ((⟨Rect.unit off S512x1024.size inb, w⟩ : View.Piece (Elt Ideal) S512x1024 .f32) :: L)
      (Rect.unit off S512x1024.size inb).toLoadRect = w := by
  subst h
  rw [View.readCov_eq_canon_ld _ _ _ (fun y => ⟨_, List.mem_cons_self, by
    show y ∈ (Rect.whole S512x1024).set
    rw [Rect.set_whole]
    exact Finset.mem_univ y⟩), View.canon_cons_unit_zero (S := S512x1024) rfl, View.ld_unit_zero (S := S512x1024) rfl]

section

variable (acc : FVec Ideal S512x1024 .f32) (h : FVec Ideal S512x1024 .bf16) (a b : Vec Ideal S1024x256 .bf16)
  (w : Vec Ideal S256x1024 .bf16)

/-- The rows as they are. -/
theorem rows_eq : k0_pay1 (F := Ideal) h = h := shapeCast_self ..

/-- What chunk 1 stores: the sum so far and its part, however the text splits the operations. -/
theorem chunk1 : k0_pay4 (F := Ideal) (k0_pay3 h a b) w acc = addf acc (k0_pay2 h a b w) := by
  unfold k0_pay4 k0_pay3 k0_pay2; simp only [shapeCast_self, rows_eq]

/-- What chunk 2 stores: the sum so far and its part, however the text splits the operations. -/
theorem chunk2 : k0_pay5 (F := Ideal) h a b w acc = addf acc (k0_pay2 h a b w) := by
  unfold k0_pay5 k0_pay2; simp only [shapeCast_self, rows_eq]

/-- What chunk 3 stores: the sum so far and its part, however the text splits the operations. -/
theorem chunk3 : k0_pay7 (F := Ideal) h (k0_pay6 a) (constant S512x256 .f32 0x00000000#32) b w acc = addf acc (k0_pay2 h a b w) := by
  unfold k0_pay7 k0_pay6 k0_pay2; simp only [shapeCast_self, rows_eq]

/-- What chunk 4 stores: the sum so far and its part, however the text splits the operations. -/
theorem chunk4 : k0_pay10 (F := Ideal) (k0_pay8 h a b) (k0_pay9 w) (constant S512x1024 .f32 0x00000000#32) acc = addf acc (k0_pay2 h a b w) := by
  unfold k0_pay10 k0_pay9 k0_pay8 k0_pay2; simp only [shapeCast_self, rows_eq]

/-- What chunk 5 stores: the sum so far and its part, however the text splits the operations. -/
theorem chunk5 : k0_pay11 (F := Ideal) h a b w acc = addf acc (k0_pay2 h a b w) := by
  unfold k0_pay11 k0_pay2; simp only [shapeCast_self, rows_eq]

/-- What chunk 6 stores: the sum so far and its part, however the text splits the operations. -/
theorem chunk6 : k0_pay14 (F := Ideal) h (k0_pay12 h a) (k0_pay13 b) (constant S512x256 .f32 0x00000000#32) w acc = addf acc (k0_pay2 h a b w) := by
  unfold k0_pay14 k0_pay13 k0_pay12 k0_pay2; simp only [shapeCast_self, rows_eq]

/-- What chunk 7 stores: the sum so far and its part, however the text splits the operations. -/
theorem chunk7 : k0_pay16 (F := Ideal) (k0_pay15 h a b w acc) = addf acc (k0_pay2 h a b w) := by
  unfold k0_pay16 k0_pay15 k0_pay2; simp only [shapeCast_self, rows_eq]

/-- What chunk 8 stores: the sum so far and its part, however the text splits the operations. -/
theorem chunk8 : k0_pay17 (F := Ideal) h a b w acc = addf acc (k0_pay2 h a b w) := by
  unfold k0_pay17 k0_pay2; simp only [shapeCast_self, rows_eq]

/-- What chunk 9 stores: the sum so far and its part, however the text splits the operations. -/
theorem chunk9 : k0_pay21 (F := Ideal) (k0_pay18 h a) (k0_pay19 h b) (k0_pay20 h a) (Scalar.ofBits .f32 0x3F800000#32) w acc = addf acc (k0_pay2 h a b w) := by
  unfold k0_pay21 k0_pay20 k0_pay19 k0_pay18 k0_pay2; simp only [shapeCast_self, rows_eq]

/-- What chunk 10 stores: the sum so far and its part, however the text splits the operations. -/
theorem chunk10 : k0_pay22 (F := Ideal) h a b w acc = addf acc (k0_pay2 h a b w) := by
  unfold k0_pay22 k0_pay2; simp only [shapeCast_self, rows_eq]

end

variable (c : Dev nD) (i : grid0.Coords)
  (arg1 : Memref sig .tc .vmem S512x1024 .bf16) (harg1 : arg1.IsWhole)
  (arg2 : Memref sig .tc .vmem S512x1024 .f32) (harg2 : arg2.IsWhole)
  (arg3 : Memref sig .tc .vmem S1x1x1x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x2816 .bf16) (harg6 : arg6.IsWhole)
  (arg7 : Memref sig .tc .vmem S1024x2816 .bf16) (harg7 : arg7.IsWhole)
  (arg8 : Memref sig .tc .vmem S2816x1024 .bf16) (harg8 : arg8.IsWhole)
  (arg9 : Memref sig .tc .vmem S512x1024 .f32) (harg9 : arg9.IsWhole)
  (arg10 : Memref sig .tc .vmem S512x1024 .f32) (harg10 : arg10.IsWhole)
  (x0 : Vec Ideal S512x1024 .bf16) (x1 : Vec Ideal S512x1024 .f32) (x2 : Vec Ideal S1x1x1x1024 .f32)
  (x3 x4 : Vec Ideal S1x1024 .f32) (x5 x6 : Vec Ideal S1024x2816 .bf16) (x7 : Vec Ideal S2816x1024 .bf16)

/-- A point's output block. -/
theorem block :
    out0_A_8 (F := Ideal) c i arg1 harg1 arg2 harg2 arg3 harg3 arg4 harg4 arg5 harg5 arg6 harg6 arg7 harg7 arg8 harg8 arg9 harg9 arg10 harg10 x0 x1 x2 x3 x4 x5 x6 x7
      = k0_pay23 x1 x2 (partly x0 x5 x6 x7 10 (by decide)) x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_cons_unit_zero (S := S512x1024) zero2]
  iterate 11 rw [reread _ zero2]
  simp only [View.readAt_eq_ld, harg1.read_unread, harg2.read_unread, harg3.read_unread, harg4.read_unread, harg5.read_unread,
    harg6.read_unread, harg7.read_unread, harg8.read_unread, View.ld_unit_zero (S := S512x1024) zero2,
    View.ld_unit_zero (S := S1x1024) zero2, View.ld_unit_zero (S := S1x1x1x1024) zero4, rows_eq,
    chunk1, chunk2, chunk3, chunk4, chunk5, chunk6, chunk7, chunk8, chunk9, chunk10]
  rfl

end Cert.Proof.DensePoint

end
-- ==== Proof.DenseBlocks.lean ====
/- The blocks a point of the dense feed-forward reads. -/
module

public import proofs.«01_k».proof.Proof.Gen.DenseIdeal.Frame
public import Idealize.ShloMosaic.Lib.Pipeline.ValueKit
public import Idealize.ShloMosaic.Lib.Pointwise

@[expose] public section

set_option maxRecDepth 16384

noncomputable section

namespace Cert.Proof.DenseBlocks

open Idealize.ShloMosaic Idealize.ShloMosaic.TcCoe Idealize.SL.Sem
open Idealize.ShloMosaic.Pipeline (Dat)
open Cert.DenseIdeal Cert.DenseIdeal.Gen

variable (m : (ℓ : Loc nD τ sig) → Buf (Elt Ideal) ℓ) (c : Dev nD)

/-- Where the blocks lie: the rows move with the tile, the modulation with the tile's batch, the rest stays. -/
theorem idx : ∀ t : Fin cfg0.N,
    win0_0.index t = ![(t : ℕ), 0] ∧ win0_1.index t = ![(t : ℕ), 0] ∧ win0_2.index t = ![(t : ℕ) / 8, 5, 0, 0]
      ∧ win0_3.index t = ![0, 0] ∧ win0_4.index t = ![0, 0] ∧ win0_5.index t = ![0, 0] ∧ win0_6.index t = ![0, 0]
      ∧ win0_7.index t = ![0, 0] ∧ win0_8.index t = ![(t : ℕ), 0] :=
  (by decide +kernel : ∀ t : Fin grid0.N, _)

/-- The rows of a point. -/
theorem rows_block (t : Fin cfg0.N) (i : Fin 512) (x : Fin 1024) (r : Fin 32768) (hr : (r : ℕ) = 512 * (t : ℕ) + i) :
    (iblk m c 0 t : FVec Ideal S512x1024 .bf16) (ix2 i x) = m ((c.tc : Thread nD τ).loc main_arg0) (ix2 r x) := by
  blk_ext! [iblk, V, idx t]

/-- The stream's rows of a point. -/
theorem stream_block (t : Fin cfg0.N) (i : Fin 512) (x : Fin 1024) (r : Fin 32768) (hr : (r : ℕ) = 512 * (t : ℕ) + i) :
    (iblk m c 1 t : FVec Ideal S512x1024 .f32) (ix2 i x) = m ((c.tc : Thread nD τ).loc main_arg1) (ix2 r x) := by
  blk_ext! [iblk, V, idx t]

/-- The modulation of a point's batch. -/
theorem modulation_block (t : Fin cfg0.N) (x : Fin 1024) (n : Fin 16) (hn : (n : ℕ) = (t : ℕ) / 8) :
    (iblk m c 2 t : FVec Ideal S1x1x1x1024 .f32) (ix4 0 0 0 x) = m ((c.tc : Thread nD τ).loc main_arg2) (ix3 n 5 x) := by
  blk_simp [iblk, idx t]
  entry_read
  pointwise
  refine congrArg (m ((c.tc : Thread nD τ).loc main_arg2)) ?_
  blk_ext [idx t]

/-- The norm's scale. -/
theorem scale_block (t : Fin cfg0.N) (k : Fin 1024) :
    (iblk m c 3 t : FVec Ideal S1x1024 .f32) (ix2 0 k) = m ((c.tc : Thread nD τ).loc main_arg3) (ix1 k) := by
  blk_simp [iblk, idx t]
  entry_read
  pointwise
  refine congrArg (m ((c.tc : Thread nD τ).loc main_arg3)) ?_
  blk_ext [idx t]

/-- The norm's shift. -/
theorem shift_block (t : Fin cfg0.N) (k : Fin 1024) :
    (iblk m c 4 t : FVec Ideal S1x1024 .f32) (ix2 0 k) = m ((c.tc : Thread nD τ).loc main_arg4) (ix1 k) := by
  blk_simp [iblk, idx t]
  entry_read
  pointwise
  refine congrArg (m ((c.tc : Thread nD τ).loc main_arg4)) ?_
  blk_ext [idx t]

/-- The gate's weights. -/
theorem gate_block (t : Fin cfg0.N) (k : Fin 1024) (f : Fin 2816) :
    (iblk m c 5 t : FVec Ideal S1024x2816 .bf16) (ix2 k f) = m ((c.tc : Thread nD τ).loc main_arg5) (ix2 k f) := by
  blk_ext! [iblk, V, idx t]

/-- The other factor's weights. -/
theorem up_block (t : Fin cfg0.N) (k : Fin 1024) (f : Fin 2816) :
    (iblk m c 6 t : FVec Ideal S1024x2816 .bf16) (ix2 k f) = m ((c.tc : Thread nD τ).loc main_arg6) (ix2 k f) := by
  blk_ext! [iblk, V, idx t]

/-- The weights back to the stream. -/
theorem down_block (t : Fin cfg0.N) (f : Fin 2816) (d : Fin 1024) :
    (iblk m c 7 t : FVec Ideal S2816x1024 .bf16) (ix2 f d) = m ((c.tc : Thread nD τ).loc main_arg7) (ix2 f d) := by
  blk_ext! [iblk, V, idx t]

end Cert.Proof.DenseBlocks

end
-- ==== Proof.DenseFinal.lean ====
/- The dense feed-forward: the kernel's run, and its result set beside the plain one. -/
module

public import proofs.«01_k».proof.Proof.DensePoint
public import proofs.«01_k».proof.Proof.DenseBlocks
public import proofs.«01_k».proof.Proof.DensePlain
public import proofs.«01_k».proof.Proof.Gen.DenseIdeal.Value

@[expose] public section

set_option maxRecDepth 16384

noncomputable section

namespace Cert.Proof.DenseFinal

open Idealize.ShloMosaic Idealize.ShloMosaic.TcCoe Idealize.SL.Sem
open Idealize.ShloMosaic.Pipeline (Dat)
open Cert.DenseIdeal Cert.DenseIdeal.Gen
open Cert.Proof.DenseTile

variable (m : (ℓ : Loc nD τ sig) → Buf (Elt Ideal) ℓ) (c : Dev nD)

/-- The plain result of the launch's arguments. -/
abbrev plain : FVec Ideal S32768x1024 .f32 :=
  DensePlain.whole (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- What a point leaves in its output block. -/
theorem after (t : Fin cfg0.N) :
    outsAt0 m c t = k0_pay23 (iblk m c 1 t) (iblk m c 2 t)
      (partly (iblk m c 0 t) (iblk m c 5 t) (iblk m c 6 t) (iblk m c 7 t) 10 (by decide)) (iblk m c 3 t) (iblk m c 4 t) := by
  unfold outsAt0
  rw [DensePoint.block]

/-- What a point writes at a row and column of its output block is the plain result there. -/
theorem point (t : Fin cfg0.N) (i : Fin 512) (d : Fin 1024) (r : Fin 32768) (hr : (r : ℕ) = 512 * (t : ℕ) + i) :
    outsAt0 m c t (ix2 i d) = plain m c (ix2 r d) := by
  refine (congrFun (after m c t) _).trans ((last_at _ _ _ _ _ i d).trans ?_)
  refine Eq.trans ?_ (DensePlain.whole_at _ _ _ _ _ _ _ _ r d).symm
  simp only [feed_at, DenseBlocks.rows_block m c t i _ r hr, DenseBlocks.stream_block m c t i _ r hr,
    DenseBlocks.scale_block m c t, DenseBlocks.shift_block m c t, DenseBlocks.gate_block m c t, DenseBlocks.up_block m c t,
    DenseBlocks.down_block m c t, DenseBlocks.modulation_block m c t _ ⟨(r : ℕ) / 4096, by omega⟩ (by simp only; omega)]

/-- The array the kernel leaves is the plain result. -/
theorem final : (dats m 0 c).arrAt 8 cfg0.N = plain m c := by
  refine (dats m 0 c).arrAt_eq_of_covers 8 _ (by decide +kernel) fun t hf y => ?_
  blk_simp
  rw [after0_8]
  idx_vars y
  have ht : t.val < 64 := Nat.lt_of_lt_of_eq t.isLt N_0
  refine (point m c t y0 y1 ⟨512 * (t : ℕ) + y0, by omega⟩ rfl).trans (congrArg _ ?_)
  blk_ext [DenseBlocks.idx t]

/-- The kernel runs, leaves the plain result, and its arguments as they were. -/
theorem run (ρ : Dev nD → PrngReg) :
    θ_run defs (onTc (τ := τ) (main (F := Ideal))) ⟨m, fun _ => 0, ρ⟩ fun r => ∀ c : Dev nD,
      r.2.mem ((c : Thread nD τ).loc main_v7) = plain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks (F := Ideal) m ρ)

end Cert.Proof.DenseFinal

end
-- ==== Proof.lean ====
module

public import proofs.«01_k».proof.Defs
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsIdeal.Value
public import proofs.«01_k».proof.Proof.Gen.ExpertsReferenceIdeal
public import proofs.«01_k».proof.Proof.Gen.ExpertsReferenceIdeal.Run
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import Idealize.ShloMosaic.Adequacy
public import Idealize.ShloMosaic.Init
public import Idealize.ShloMosaic.Lib.Quiescent
public import Idealize.ShloMosaic.Lib.Claim
public import proofs.«01_k».proof.Proof.ExpertsPlain
public import proofs.«01_k».proof.Proof.ExpertsFinal
public import proofs.«01_k».proof.Proof.DensePlain
public import proofs.«01_k».proof.Proof.DenseFinal

@[expose] public section

noncomputable section

namespace Cert.Proof

open Idealize.ShloMosaic Idealize.SL.Sem

/-- The reference runs, terminates, leaves its arguments as they were and every semaphore at zero. -/
theorem experts_reference_frame : Cert.quiescent_ExpertsReferenceIdeal := fun m ρ _ =>
  (θ_run Cert.ExpertsReferenceIdeal.defs _ _).mono
    (fun r h => ⟨fun c => (h c).2, Idealize.ShloMosaic.sem_eq_zero_of_no_sems (by decide) r.2⟩)
    (Cert.ExpertsReferenceIdeal.Value.run (F := Ideal) m ρ)

/-- The experts: the kernel's result is the reference's. -/
theorem experts_same_value : Cert.algebraic_ExpertsIdeal_ExpertsReferenceIdeal := by
  intro m g m' g' _ agree
  refine ⟨fun c => Cert.Proof.ExpertsFinal.plain m c, Cert.Proof.ExpertsFinal.run m g, ?_⟩
  refine (θ_run Cert.ExpertsReferenceIdeal.defs _ _).mono ?_ (Cert.ExpertsReferenceIdeal.Value.run (F := Ideal) m' g')
  intro r h c
  refine ⟨((h c).1.trans (Cert.Proof.ExpertsPlain.result (StableHlo.launchContents m' c))).trans ?_, (h c).2⟩
  obtain ⟨h0, h1, h2, h3, h4, h5, h6, h7, h8⟩ := agree c
  beta_reduce
  unfold Cert.Proof.ExpertsFinal.plain
  rw [← h0, ← h1, ← h2, ← h3, ← h4, ← h5, ← h6, ← h7, ← h8]

/-- The dense call's reference runs, terminates, leaves its arguments as they were and every semaphore at zero. -/
theorem dense_reference_frame : Cert.quiescent_DenseReferenceIdeal := fun m ρ _ =>
  (θ_run Cert.DenseReferenceIdeal.defs _ _).mono
    (fun r h => ⟨fun c => (h c).2, Idealize.ShloMosaic.sem_eq_zero_of_no_sems (by decide) r.2⟩)
    (Cert.DenseReferenceIdeal.Value.run (F := Ideal) m ρ)

/-- The dense feed-forward: the kernel's result is the reference's. -/
theorem dense_same_value : Cert.algebraic_DenseIdeal_DenseReferenceIdeal := by
  intro m g m' g' _ agree
  refine ⟨fun c => Cert.Proof.DenseFinal.plain m c, Cert.Proof.DenseFinal.run m g, ?_⟩
  refine (θ_run Cert.DenseReferenceIdeal.defs _ _).mono ?_ (Cert.DenseReferenceIdeal.Value.run (F := Ideal) m' g')
  intro r h c
  refine ⟨((h c).1.trans (Cert.Proof.DensePlain.result m' c)).trans ?_, (h c).2⟩
  obtain ⟨h0, h1, h2, h3, h4, h5, h6, h7⟩ := agree c
  beta_reduce
  unfold Cert.Proof.DenseFinal.plain
  rw [← h0, ← h1, ← h2, ← h3, ← h4, ← h5, ← h6, ← h7]

/-- Everything that the certificate claims. -/
theorem claim : Cert.Claim :=
  ⟨Cert.Experts.Gen.facts, Cert.ExpertsIdeal.Gen.facts, Cert.ExpertsReferenceIdeal.Gen.facts,
   Cert.Dense.Gen.facts, Cert.DenseIdeal.Gen.facts, Cert.DenseReferenceIdeal.Gen.facts,
   fun m ρ _ => Cert.Experts.Gen.frame m ρ,
   fun m ρ _ => Cert.ExpertsIdeal.Gen.frame m ρ,
   experts_reference_frame,
   fun m ρ _ => Cert.Dense.Gen.frame m ρ,
   fun m ρ _ => Cert.DenseIdeal.Gen.frame m ρ,
   dense_reference_frame, trivial, experts_same_value, trivial, dense_same_value⟩

end Cert.Proof

end
